-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v828) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x32x64 : Shape := ⟨4, ![4, 256, 32, 64]⟩
abbrev S2x32x64 : Shape := ⟨3, ![2, 32, 64]⟩
abbrev S4x256x2048 : Shape := ⟨3, ![4, 256, 2048]⟩
abbrev S4x2048x256 : Shape := ⟨3, ![4, 2048, 256]⟩
abbrev S2x2048 : Shape := ⟨2, ![2, 2048]⟩
abbrev S4x41x4x2048 : Shape := ⟨4, ![4, 41, 4, 2048]⟩
abbrev S1x2048 : Shape := ⟨2, ![1, 2048]⟩
abbrev S2048 : Shape := ⟨1, ![2048]⟩
abbrev S9x1 : Shape := ⟨2, ![9, 1]⟩
abbrev S9x2048 : Shape := ⟨2, ![9, 2048]⟩
abbrev S72x2048 : Shape := ⟨2, ![72, 2048]⟩
abbrev S72x1x2048 : Shape := ⟨3, ![72, 1, 2048]⟩
abbrev S72x3x2048 : Shape := ⟨3, ![72, 3, 2048]⟩
abbrev S9x3x2048 : Shape := ⟨3, ![9, 3, 2048]⟩
abbrev S1x2048x256 : Shape := ⟨3, ![1, 2048, 256]⟩
abbrev S2048x256 : Shape := ⟨2, ![2048, 256]⟩
abbrev S1x256x2048 : Shape := ⟨3, ![1, 256, 2048]⟩
abbrev S256x2048 : Shape := ⟨2, ![256, 2048]⟩
abbrev S2048x2048 : Shape := ⟨2, ![2048, 2048]⟩
abbrev S32x64x2048 : Shape := ⟨3, ![32, 64, 2048]⟩
abbrev S64x2048 : Shape := ⟨2, ![64, 2048]⟩
abbrev S1x64x2048 : Shape := ⟨3, ![1, 64, 2048]⟩
abbrev S3x2048 : Shape := ⟨2, ![3, 2048]⟩
abbrev S1x3x2048 : Shape := ⟨3, ![1, 3, 2048]⟩
abbrev S3x3x2048 : Shape := ⟨3, ![3, 3, 2048]⟩
abbrev S3x1x3x2048 : Shape := ⟨4, ![3, 1, 3, 2048]⟩
abbrev S1x9x3x2048 : Shape := ⟨4, ![1, 9, 3, 2048]⟩
abbrev S3x9x3x2048 : Shape := ⟨4, ![3, 9, 3, 2048]⟩
abbrev S3x9x2048 : Shape := ⟨3, ![3, 9, 2048]⟩
abbrev S1x1x2048 : Shape := ⟨3, ![1, 1, 2048]⟩
abbrev S1x5x2048 : Shape := ⟨3, ![1, 5, 2048]⟩
abbrev S5x2048 : Shape := ⟨2, ![5, 2048]⟩
abbrev S1x7x2048 : Shape := ⟨3, ![1, 7, 2048]⟩
abbrev S7x2048 : Shape := ⟨2, ![7, 2048]⟩
abbrev S1x9x2048 : Shape := ⟨3, ![1, 9, 2048]⟩
abbrev S41x2048 : Shape := ⟨2, ![41, 2048]⟩
abbrev S16x2x32x2x2048 : Shape := ⟨5, ![16, 2, 32, 2, 2048]⟩
abbrev S16x1x32x1x2048 : Shape := ⟨5, ![16, 1, 32, 1, 2048]⟩
abbrev S16x32x2048 : Shape := ⟨3, ![16, 32, 2048]⟩
abbrev S32x2048 : Shape := ⟨2, ![32, 2048]⟩
abbrev S1x32x2048 : Shape := ⟨3, ![1, 32, 2048]⟩
abbrev S8x2x16x2x2048 : Shape := ⟨5, ![8, 2, 16, 2, 2048]⟩
abbrev S8x1x16x1x2048 : Shape := ⟨5, ![8, 1, 16, 1, 2048]⟩
abbrev S8x16x2048 : Shape := ⟨3, ![8, 16, 2048]⟩
abbrev S16x2048 : Shape := ⟨2, ![16, 2048]⟩
abbrev S1x16x2048 : Shape := ⟨3, ![1, 16, 2048]⟩
abbrev S4x2x8x2x2048 : Shape := ⟨5, ![4, 2, 8, 2, 2048]⟩
abbrev S4x1x8x1x2048 : Shape := ⟨5, ![4, 1, 8, 1, 2048]⟩
abbrev S4x8x2048 : Shape := ⟨3, ![4, 8, 2048]⟩
abbrev S8x2048 : Shape := ⟨2, ![8, 2048]⟩
abbrev S1x8x2048 : Shape := ⟨3, ![1, 8, 2048]⟩
abbrev S41x1x2048 : Shape := ⟨3, ![41, 1, 2048]⟩
abbrev S41x4x2048 : Shape := ⟨3, ![41, 4, 2048]⟩
abbrev S1x41x4x2048 : Shape := ⟨4, ![1, 41, 4, 2048]⟩

abbrev nBuf : Space → Nat
  | .hbm => 10
  | .vmem => 4
  | .smem => 0
  | _ => 0

abbrev bufTy : (tb : Table) → Fin (tcTables nBuf tb) → BufTy
  | .hbm, ⟨0, _⟩ => ⟨S4x256x32x64, .f32⟩
  | .hbm, ⟨1, _⟩ => ⟨S4x256x32x64, .f32⟩
  | .hbm, ⟨2, _⟩ => ⟨S2x32x64, .f32⟩
  | .hbm, ⟨3, _⟩ => ⟨S4x256x2048, .f32⟩
  | .hbm, ⟨4, _⟩ => ⟨S4x256x2048, .bf16⟩
  | .hbm, ⟨5, _⟩ => ⟨S4x256x2048, .f32⟩
  | .hbm, ⟨6, _⟩ => ⟨S4x2048x256, .f32⟩
  | .hbm, ⟨7, _⟩ => ⟨S4x2048x256, .bf16⟩
  | .hbm, ⟨8, _⟩ => ⟨S2x2048, .f32⟩
  | .hbm, ⟨9, _⟩ => ⟨S4x41x4x2048, .f32⟩
  | .local _ .vmem, ⟨0, _⟩ => ⟨S4x2048x256, .bf16⟩
  | .local _ .vmem, ⟨1, _⟩ => ⟨S4x256x2048, .bf16⟩
  | .local _ .vmem, ⟨2, _⟩ => ⟨S2x2048, .f32⟩
  | .local _ .vmem, ⟨3, _⟩ => ⟨S4x41x4x2048, .f32⟩
  | _, _ => ⟨S4x256x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x41x4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x256x32x64 : Shape := ⟨4, ![4, 256, 32, 64]⟩
abbrev S2x32x64 : Shape := ⟨3, ![2, 32, 64]⟩
abbrev S1 : Shape := ⟨1, ![1]⟩
abbrev S_ : Shape := ⟨0, ![]⟩
abbrev S3 : Shape := ⟨1, ![3]⟩
abbrev S5 : Shape := ⟨1, ![5]⟩
abbrev S7 : Shape := ⟨1, ![7]⟩
abbrev S9 : Shape := ⟨1, ![9]⟩
abbrev S41 : Shape := ⟨1, ![41]⟩
abbrev S4x32x64x32x64 : Shape := ⟨5, ![4, 32, 64, 32, 64]⟩
abbrev S4x32x64x16x2x32x2 : Shape := ⟨7, ![4, 32, 64, 16, 2, 32, 2]⟩
abbrev S4x32x64x16x32 : Shape := ⟨5, ![4, 32, 64, 16, 32]⟩
abbrev S4x32x64x8x2x16x2 : Shape := ⟨7, ![4, 32, 64, 8, 2, 16, 2]⟩
abbrev S4x32x64x8x16 : Shape := ⟨5, ![4, 32, 64, 8, 16]⟩
abbrev S4x32x64x4x2x8x2 : Shape := ⟨7, ![4, 32, 64, 4, 2, 8, 2]⟩
abbrev S4x32x64x4x8 : Shape := ⟨5, ![4, 32, 64, 4, 8]⟩
abbrev S32 : Shape := ⟨1, ![32]⟩
abbrev S32x1x1 : Shape := ⟨3, ![32, 1, 1]⟩
abbrev S64 : Shape := ⟨1, ![64]⟩
abbrev S1x64x1 : Shape := ⟨3, ![1, 64, 1]⟩
abbrev S1x1x41 : Shape := ⟨3, ![1, 1, 41]⟩
abbrev S1x32x64 : Shape := ⟨3, ![1, 32, 64]⟩
abbrev S32x64 : Shape := ⟨2, ![32, 64]⟩
abbrev S32x64x1 : Shape := ⟨3, ![32, 64, 1]⟩
abbrev S32x64x41 : Shape := ⟨3, ![32, 64, 41]⟩
abbrev S32x64x41x1 : Shape := ⟨4, ![32, 64, 41, 1]⟩
abbrev S32x64x41x4 : Shape := ⟨4, ![32, 64, 41, 4]⟩
abbrev S4x32x64x41 : Shape := ⟨4, ![4, 32, 64, 41]⟩
abbrev S1x32x64x41 : Shape := ⟨4, ![1, 32, 64, 41]⟩
abbrev S4x41x32x64 : Shape := ⟨4, ![4, 41, 32, 64]⟩
abbrev S4x41x1x32x64 : Shape := ⟨5, ![4, 41, 1, 32, 64]⟩
abbrev S4x41x4x32x64 : Shape := ⟨5, ![4, 41, 4, 32, 64]⟩
abbrev S4x41x4x2048 : Shape := ⟨4, ![4, 41, 4, 2048]⟩

abbrev nBuf : Space → Nat
  | .hbm => 1217
  | .vmem => 0
  | .smem => 0
  | _ => 0

abbrev hbmTy0_0 (i : Nat) : BufTy := match i % 128 with
  | 0 => ⟨S4x256x32x64, .f32⟩
  | 1 => ⟨S4x256x32x64, .f32⟩
  | 2 => ⟨S2x32x64, .f32⟩
  | 3 => ⟨S1, .i32⟩
  | 4 => ⟨S1, .f32⟩
  | 5 => ⟨S_, .f32⟩
  | 6 => ⟨S1, .f32⟩
  | 7 => ⟨S1, .f32⟩
  | 8 => ⟨S3, .i32⟩
  | 9 => ⟨S3, .f32⟩
  | 10 => ⟨S_, .f32⟩
  | 11 => ⟨S3, .f32⟩
  | 12 => ⟨S3, .f32⟩
  | 13 => ⟨S5, .i32⟩
  | 14 => ⟨S5, .f32⟩
  | 15 => ⟨S_, .f32⟩
  | 16 => ⟨S5, .f32⟩
  | 17 => ⟨S5, .f32⟩
  | 18 => ⟨S7, .i32⟩
  | 19 => ⟨S7, .f32⟩
  | 20 => ⟨S_, .f32⟩
  | 21 => ⟨S7, .f32⟩
  | 22 => ⟨S7, .f32⟩
  | 23 => ⟨S9, .i32⟩
  | 24 => ⟨S9, .f32⟩
  | 25 => ⟨S_, .f32⟩
  | 26 => ⟨S9, .f32⟩
  | 27 => ⟨S9, .f32⟩
  | 28 => ⟨S7, .i32⟩
  | 29 => ⟨S7, .f32⟩
  | 30 => ⟨S_, .f32⟩
  | 31 => ⟨S7, .f32⟩
  | 32 => ⟨S7, .f32⟩
  | 33 => ⟨S5, .i32⟩
  | 34 => ⟨S5, .f32⟩
  | 35 => ⟨S_, .f32⟩
  | 36 => ⟨S5, .f32⟩
  | 37 => ⟨S5, .f32⟩
  | 38 => ⟨S3, .i32⟩
  | 39 => ⟨S3, .f32⟩
  | 40 => ⟨S_, .f32⟩
  | 41 => ⟨S3, .f32⟩
  | 42 => ⟨S3, .f32⟩
  | 43 => ⟨S1, .i32⟩
  | 44 => ⟨S1, .f32⟩
  | 45 => ⟨S_, .f32⟩
  | 46 => ⟨S1, .f32⟩
  | 47 => ⟨S1, .f32⟩
  | 48 => ⟨S_, .f32⟩
  | 49 => ⟨S1, .f32⟩
  | 50 => ⟨S_, .f32⟩
  | 51 => ⟨S3, .f32⟩
  | 52 => ⟨S_, .f32⟩
  | 53 => ⟨S5, .f32⟩
  | 54 => ⟨S_, .f32⟩
  | 55 => ⟨S7, .f32⟩
  | 56 => ⟨S_, .f32⟩
  | 57 => ⟨S9, .f32⟩
  | 58 => ⟨S_, .f32⟩
  | 59 => ⟨S7, .f32⟩
  | 60 => ⟨S_, .f32⟩
  | 61 => ⟨S5, .f32⟩
  | 62 => ⟨S_, .f32⟩
  | 63 => ⟨S3, .f32⟩
  | 64 => ⟨S_, .f32⟩
  | 65 => ⟨S1, .f32⟩
  | 66 => ⟨S41, .f32⟩
  | 67 => ⟨S41, .f32⟩
  | 68 => ⟨S4x32x64x32x64, .f32⟩
  | 69 => ⟨S_, .f32⟩
  | 70 => ⟨S_, .f32⟩
  | 71 => ⟨S4x32x64x32x64, .f32⟩
  | 72 => ⟨S4x32x64x32x64, .f32⟩
  | 73 => ⟨S4x32x64x16x2x32x2, .f32⟩
  | 74 => ⟨S_, .f32⟩
  | 75 => ⟨S4x32x64x16x32, .f32⟩
  | 76 => ⟨S_, .f32⟩
  | 77 => ⟨S4x32x64x16x32, .f32⟩
  | 78 => ⟨S4x32x64x16x32, .f32⟩
  | 79 => ⟨S4x32x64x8x2x16x2, .f32⟩
  | 80 => ⟨S_, .f32⟩
  | 81 => ⟨S4x32x64x8x16, .f32⟩
  | 82 => ⟨S_, .f32⟩
  | 83 => ⟨S4x32x64x8x16, .f32⟩
  | 84 => ⟨S4x32x64x8x16, .f32⟩
  | 85 => ⟨S4x32x64x4x2x8x2, .f32⟩
  | 86 => ⟨S_, .f32⟩
  | 87 => ⟨S4x32x64x4x8, .f32⟩
  | 88 => ⟨S_, .f32⟩
  | 89 => ⟨S4x32x64x4x8, .f32⟩
  | 90 => ⟨S4x32x64x4x8, .f32⟩
  | 91 => ⟨S32, .f32⟩
  | 92 => ⟨S32x1x1, .f32⟩
  | 93 => ⟨S64, .f32⟩
  | 94 => ⟨S1x64x1, .f32⟩
  | 95 => ⟨S1x1x41, .f32⟩
  | 96 => ⟨S1x1x41, .f32⟩
  | 97 => ⟨S1x32x64, .f32⟩
  | 98 => ⟨S32x64, .f32⟩
  | 99 => ⟨S32x64x1, .f32⟩
  | 100 => ⟨S1x32x64, .f32⟩
  | 101 => ⟨S32x64, .f32⟩
  | 102 => ⟨S32x64x1, .f32⟩
  | 103 => ⟨S_, .f32⟩
  | 104 => ⟨S1x64x1, .f32⟩
  | 105 => ⟨S1x64x1, .f32⟩
  | 106 => ⟨S_, .f32⟩
  | 107 => ⟨S32x64x1, .f32⟩
  | 108 => ⟨S32x64x1, .f32⟩
  | 109 => ⟨S32x64x1, .f32⟩
  | 110 => ⟨S32x64x1, .f32⟩
  | 111 => ⟨S32x64x41, .f32⟩
  | 112 => ⟨S32x64x41, .f32⟩
  | 113 => ⟨S32x64x41, .f32⟩
  | 114 => ⟨S_, .f32⟩
  | 115 => ⟨S32x64x41, .f32⟩
  | 116 => ⟨S32x64x41, .f32⟩
  | 117 => ⟨S_, .f32⟩
  | 118 => ⟨S32x64x41, .f32⟩
  | 119 => ⟨S32x64x41, .f32⟩
  | 120 => ⟨S_, .f32⟩
  | 121 => ⟨S32x1x1, .f32⟩
  | 122 => ⟨S32x1x1, .f32⟩
  | 123 => ⟨S_, .f32⟩
  | 124 => ⟨S32x64x1, .f32⟩
  | 125 => ⟨S32x64x1, .f32⟩
  | 126 => ⟨S32x64x1, .f32⟩
  | 127 => ⟨S32x64x1, .f32⟩
  | _ => ⟨S4x256x32x64, .f32⟩

abbrev hbmTy0_1 (i : Nat) : BufTy := match i % 128 with
  | 0 => ⟨S32x64x41, .f32⟩
  | 1 => ⟨S32x64x41, .f32⟩
  | 2 => ⟨S32x64x41, .f32⟩
  | 3 => ⟨S_, .f32⟩
  | 4 => ⟨S32x64x41, .f32⟩
  | 5 => ⟨S32x64x41, .f32⟩
  | 6 => ⟨S_, .f32⟩
  | 7 => ⟨S32x64x41, .f32⟩
  | 8 => ⟨S32x64x41, .f32⟩
  | 9 => ⟨S_, .f32⟩
  | 10 => ⟨S32x64x41, .f32⟩
  | 11 => ⟨S32x64x41, .f32⟩
  | 12 => ⟨S_, .f32⟩
  | 13 => ⟨S32x64x41, .f32⟩
  | 14 => ⟨S32x64x41, .f32⟩
  | 15 => ⟨S_, .f32⟩
  | 16 => ⟨S32x64x41, .f32⟩
  | 17 => ⟨S32x64x41, .f32⟩
  | 18 => ⟨S_, .f32⟩
  | 19 => ⟨S32x64x41, .f32⟩
  | 20 => ⟨S32x64x41, .f32⟩
  | 21 => ⟨S_, .f32⟩
  | 22 => ⟨S32x64x41, .f32⟩
  | 23 => ⟨S32x64x41, .f32⟩
  | 24 => ⟨S_, .f32⟩
  | 25 => ⟨S32x64x41, .f32⟩
  | 26 => ⟨S32x64x41, .f32⟩
  | 27 => ⟨S32x64x41, .f32⟩
  | 28 => ⟨S_, .f32⟩
  | 29 => ⟨S32x64x41, .f32⟩
  | 30 => ⟨S32x64x41, .f32⟩
  | 31 => ⟨S32x64x41, .f32⟩
  | 32 => ⟨S_, .f32⟩
  | 33 => ⟨S32x64x41, .f32⟩
  | 34 => ⟨S32x64x41, .f32⟩
  | 35 => ⟨S32x64x41, .f32⟩
  | 36 => ⟨S_, .f32⟩
  | 37 => ⟨S32x64x41, .f32⟩
  | 38 => ⟨S32x64x41, .f32⟩
  | 39 => ⟨S32x64x41, .f32⟩
  | 40 => ⟨S_, .f32⟩
  | 41 => ⟨S32x64x41, .f32⟩
  | 42 => ⟨S32x64x41, .f32⟩
  | 43 => ⟨S32, .i32⟩
  | 44 => ⟨S32x1x1, .i32⟩
  | 45 => ⟨S32x64x41, .i32⟩
  | 46 => ⟨S64, .i32⟩
  | 47 => ⟨S1x64x1, .i32⟩
  | 48 => ⟨S32x64x41, .i32⟩
  | 49 => ⟨S_, .f32⟩
  | 50 => ⟨S32x64x41, .f32⟩
  | 51 => ⟨S32x64x41, .i1⟩
  | 52 => ⟨S_, .f32⟩
  | 53 => ⟨S32x64x41, .f32⟩
  | 54 => ⟨S32x64x41, .i1⟩
  | 55 => ⟨S32x64x41, .i1⟩
  | 56 => ⟨S_, .f32⟩
  | 57 => ⟨S32x64x41, .f32⟩
  | 58 => ⟨S32x64x41, .i1⟩
  | 59 => ⟨S32x64x41, .i1⟩
  | 60 => ⟨S_, .f32⟩
  | 61 => ⟨S32x64x41, .f32⟩
  | 62 => ⟨S32x64x41, .i1⟩
  | 63 => ⟨S32x64x41, .i1⟩
  | 64 => ⟨S32x64x41, .f32⟩
  | 65 => ⟨S_, .i32⟩
  | 66 => ⟨S_, .i32⟩
  | 67 => ⟨S_, .f32⟩
  | 68 => ⟨S32x64x41, .f32⟩
  | 69 => ⟨S32x64x41, .f32⟩
  | 70 => ⟨S_, .f32⟩
  | 71 => ⟨S32x64x41, .f32⟩
  | 72 => ⟨S32x64x41, .f32⟩
  | 73 => ⟨S32x64x41, .i32⟩
  | 74 => ⟨S_, .i32⟩
  | 75 => ⟨S_, .i32⟩
  | 76 => ⟨S_, .f32⟩
  | 77 => ⟨S32x64x41, .f32⟩
  | 78 => ⟨S32x64x41, .f32⟩
  | 79 => ⟨S_, .f32⟩
  | 80 => ⟨S32x64x41, .f32⟩
  | 81 => ⟨S32x64x41, .f32⟩
  | 82 => ⟨S32x64x41, .i32⟩
  | 83 => ⟨S32x64x41x1, .i32⟩
  | 84 => ⟨S32x64x41x1, .i32⟩
  | 85 => ⟨S32x64x41x1, .i32⟩
  | 86 => ⟨S32x64x41x1, .i32⟩
  | 87 => ⟨S32x64x41x4, .i32⟩
  | 88 => ⟨S4x32x64x41, .f32⟩
  | 89 => ⟨S1x32x64x41, .f32⟩
  | 90 => ⟨S4x32x64x41, .f32⟩
  | 91 => ⟨S4x32x64x41, .f32⟩
  | 92 => ⟨S32x64x41, .f32⟩
  | 93 => ⟨S1x32x64x41, .f32⟩
  | 94 => ⟨S4x32x64x41, .f32⟩
  | 95 => ⟨S4x32x64x41, .f32⟩
  | 96 => ⟨S_, .f32⟩
  | 97 => ⟨S32x64x41, .f32⟩
  | 98 => ⟨S32x64x41, .i1⟩
  | 99 => ⟨S_, .f32⟩
  | 100 => ⟨S32x64x41, .f32⟩
  | 101 => ⟨S32x64x41, .i1⟩
  | 102 => ⟨S32x64x41, .i1⟩
  | 103 => ⟨S_, .f32⟩
  | 104 => ⟨S32x64x41, .f32⟩
  | 105 => ⟨S32x64x41, .i1⟩
  | 106 => ⟨S32x64x41, .i1⟩
  | 107 => ⟨S_, .f32⟩
  | 108 => ⟨S32x64x41, .f32⟩
  | 109 => ⟨S32x64x41, .i1⟩
  | 110 => ⟨S32x64x41, .i1⟩
  | 111 => ⟨S32x64x41, .f32⟩
  | 112 => ⟨S_, .i32⟩
  | 113 => ⟨S_, .i32⟩
  | 114 => ⟨S_, .f32⟩
  | 115 => ⟨S32x64x41, .f32⟩
  | 116 => ⟨S32x64x41, .f32⟩
  | 117 => ⟨S_, .f32⟩
  | 118 => ⟨S32x64x41, .f32⟩
  | 119 => ⟨S32x64x41, .f32⟩
  | 120 => ⟨S32x64x41, .i32⟩
  | 121 => ⟨S_, .i32⟩
  | 122 => ⟨S_, .i32⟩
  | 123 => ⟨S_, .f32⟩
  | 124 => ⟨S32x64x41, .f32⟩
  | 125 => ⟨S32x64x41, .f32⟩
  | 126 => ⟨S_, .f32⟩
  | 127 => ⟨S32x64x41, .f32⟩
  | _ => ⟨S4x256x32x64, .f32⟩

abbrev hbmTy0_2 (i : Nat) : BufTy := match i % 128 with
  | 0 => ⟨S32x64x41, .f32⟩
  | 1 => ⟨S32x64x41, .i32⟩
  | 2 => ⟨S32x64x41x1, .i32⟩
  | 3 => ⟨S32x64x41x1, .i32⟩
  | 4 => ⟨S32x64x41x1, .i32⟩
  | 5 => ⟨S32x64x41x1, .i32⟩
  | 6 => ⟨S32x64x41x4, .i32⟩
  | 7 => ⟨S4x32x64x41, .f32⟩
  | 8 => ⟨S1x32x64x41, .f32⟩
  | 9 => ⟨S4x32x64x41, .f32⟩
  | 10 => ⟨S4x32x64x41, .f32⟩
  | 11 => ⟨S32x64x41, .f32⟩
  | 12 => ⟨S1x32x64x41, .f32⟩
  | 13 => ⟨S4x32x64x41, .f32⟩
  | 14 => ⟨S4x32x64x41, .f32⟩
  | 15 => ⟨S4x32x64x41, .f32⟩
  | 16 => ⟨S_, .f32⟩
  | 17 => ⟨S32x64x41, .f32⟩
  | 18 => ⟨S32x64x41, .i1⟩
  | 19 => ⟨S_, .f32⟩
  | 20 => ⟨S32x64x41, .f32⟩
  | 21 => ⟨S32x64x41, .i1⟩
  | 22 => ⟨S32x64x41, .i1⟩
  | 23 => ⟨S_, .f32⟩
  | 24 => ⟨S32x64x41, .f32⟩
  | 25 => ⟨S32x64x41, .i1⟩
  | 26 => ⟨S32x64x41, .i1⟩
  | 27 => ⟨S_, .f32⟩
  | 28 => ⟨S32x64x41, .f32⟩
  | 29 => ⟨S32x64x41, .i1⟩
  | 30 => ⟨S32x64x41, .i1⟩
  | 31 => ⟨S32x64x41, .f32⟩
  | 32 => ⟨S_, .i32⟩
  | 33 => ⟨S_, .i32⟩
  | 34 => ⟨S_, .f32⟩
  | 35 => ⟨S32x64x41, .f32⟩
  | 36 => ⟨S32x64x41, .f32⟩
  | 37 => ⟨S_, .f32⟩
  | 38 => ⟨S32x64x41, .f32⟩
  | 39 => ⟨S32x64x41, .f32⟩
  | 40 => ⟨S32x64x41, .i32⟩
  | 41 => ⟨S_, .i32⟩
  | 42 => ⟨S_, .i32⟩
  | 43 => ⟨S_, .f32⟩
  | 44 => ⟨S32x64x41, .f32⟩
  | 45 => ⟨S32x64x41, .f32⟩
  | 46 => ⟨S_, .f32⟩
  | 47 => ⟨S32x64x41, .f32⟩
  | 48 => ⟨S32x64x41, .f32⟩
  | 49 => ⟨S32x64x41, .i32⟩
  | 50 => ⟨S32x64x41x1, .i32⟩
  | 51 => ⟨S32x64x41x1, .i32⟩
  | 52 => ⟨S32x64x41x1, .i32⟩
  | 53 => ⟨S32x64x41x1, .i32⟩
  | 54 => ⟨S32x64x41x4, .i32⟩
  | 55 => ⟨S4x32x64x41, .f32⟩
  | 56 => ⟨S1x32x64x41, .f32⟩
  | 57 => ⟨S4x32x64x41, .f32⟩
  | 58 => ⟨S4x32x64x41, .f32⟩
  | 59 => ⟨S32x64x41, .f32⟩
  | 60 => ⟨S1x32x64x41, .f32⟩
  | 61 => ⟨S4x32x64x41, .f32⟩
  | 62 => ⟨S4x32x64x41, .f32⟩
  | 63 => ⟨S4x32x64x41, .f32⟩
  | 64 => ⟨S_, .f32⟩
  | 65 => ⟨S32x64x41, .f32⟩
  | 66 => ⟨S32x64x41, .i1⟩
  | 67 => ⟨S_, .f32⟩
  | 68 => ⟨S32x64x41, .f32⟩
  | 69 => ⟨S32x64x41, .i1⟩
  | 70 => ⟨S32x64x41, .i1⟩
  | 71 => ⟨S_, .f32⟩
  | 72 => ⟨S32x64x41, .f32⟩
  | 73 => ⟨S32x64x41, .i1⟩
  | 74 => ⟨S32x64x41, .i1⟩
  | 75 => ⟨S_, .f32⟩
  | 76 => ⟨S32x64x41, .f32⟩
  | 77 => ⟨S32x64x41, .i1⟩
  | 78 => ⟨S32x64x41, .i1⟩
  | 79 => ⟨S32x64x41, .f32⟩
  | 80 => ⟨S_, .i32⟩
  | 81 => ⟨S_, .i32⟩
  | 82 => ⟨S_, .f32⟩
  | 83 => ⟨S32x64x41, .f32⟩
  | 84 => ⟨S32x64x41, .f32⟩
  | 85 => ⟨S_, .f32⟩
  | 86 => ⟨S32x64x41, .f32⟩
  | 87 => ⟨S32x64x41, .f32⟩
  | 88 => ⟨S32x64x41, .i32⟩
  | 89 => ⟨S_, .i32⟩
  | 90 => ⟨S_, .i32⟩
  | 91 => ⟨S_, .f32⟩
  | 92 => ⟨S32x64x41, .f32⟩
  | 93 => ⟨S32x64x41, .f32⟩
  | 94 => ⟨S_, .f32⟩
  | 95 => ⟨S32x64x41, .f32⟩
  | 96 => ⟨S32x64x41, .f32⟩
  | 97 => ⟨S32x64x41, .i32⟩
  | 98 => ⟨S32x64x41x1, .i32⟩
  | 99 => ⟨S32x64x41x1, .i32⟩
  | 100 => ⟨S32x64x41x1, .i32⟩
  | 101 => ⟨S32x64x41x1, .i32⟩
  | 102 => ⟨S32x64x41x4, .i32⟩
  | 103 => ⟨S4x32x64x41, .f32⟩
  | 104 => ⟨S1x32x64x41, .f32⟩
  | 105 => ⟨S4x32x64x41, .f32⟩
  | 106 => ⟨S4x32x64x41, .f32⟩
  | 107 => ⟨S32x64x41, .f32⟩
  | 108 => ⟨S1x32x64x41, .f32⟩
  | 109 => ⟨S4x32x64x41, .f32⟩
  | 110 => ⟨S4x32x64x41, .f32⟩
  | 111 => ⟨S4x32x64x41, .f32⟩
  | 112 => ⟨S4x41x32x64, .f32⟩
  | 113 => ⟨S4x41x1x32x64, .f32⟩
  | 114 => ⟨S32, .f32⟩
  | 115 => ⟨S32x1x1, .f32⟩
  | 116 => ⟨S64, .f32⟩
  | 117 => ⟨S1x64x1, .f32⟩
  | 118 => ⟨S1x1x41, .f32⟩
  | 119 => ⟨S1x1x41, .f32⟩
  | 120 => ⟨S1x32x64, .f32⟩
  | 121 => ⟨S32x64, .f32⟩
  | 122 => ⟨S32x64x1, .f32⟩
  | 123 => ⟨S1x32x64, .f32⟩
  | 124 => ⟨S32x64, .f32⟩
  | 125 => ⟨S32x64x1, .f32⟩
  | 126 => ⟨S_, .f32⟩
  | 127 => ⟨S1x64x1, .f32⟩
  | _ => ⟨S4x256x32x64, .f32⟩

abbrev hbmTy0_3 (i : Nat) : BufTy := match i % 128 with
  | 0 => ⟨S1x64x1, .f32⟩
  | 1 => ⟨S_, .f32⟩
  | 2 => ⟨S32x64x1, .f32⟩
  | 3 => ⟨S32x64x1, .f32⟩
  | 4 => ⟨S32x64x1, .f32⟩
  | 5 => ⟨S32x64x1, .f32⟩
  | 6 => ⟨S32x64x41, .f32⟩
  | 7 => ⟨S32x64x41, .f32⟩
  | 8 => ⟨S32x64x41, .f32⟩
  | 9 => ⟨S_, .f32⟩
  | 10 => ⟨S32x64x41, .f32⟩
  | 11 => ⟨S32x64x41, .f32⟩
  | 12 => ⟨S_, .f32⟩
  | 13 => ⟨S32x64x41, .f32⟩
  | 14 => ⟨S32x64x41, .f32⟩
  | 15 => ⟨S_, .f32⟩
  | 16 => ⟨S32x1x1, .f32⟩
  | 17 => ⟨S32x1x1, .f32⟩
  | 18 => ⟨S_, .f32⟩
  | 19 => ⟨S32x64x1, .f32⟩
  | 20 => ⟨S32x64x1, .f32⟩
  | 21 => ⟨S32x64x1, .f32⟩
  | 22 => ⟨S32x64x1, .f32⟩
  | 23 => ⟨S32x64x41, .f32⟩
  | 24 => ⟨S32x64x41, .f32⟩
  | 25 => ⟨S32x64x41, .f32⟩
  | 26 => ⟨S_, .f32⟩
  | 27 => ⟨S32x64x41, .f32⟩
  | 28 => ⟨S32x64x41, .f32⟩
  | 29 => ⟨S_, .f32⟩
  | 30 => ⟨S32x64x41, .f32⟩
  | 31 => ⟨S32x64x41, .f32⟩
  | 32 => ⟨S_, .f32⟩
  | 33 => ⟨S32x64x41, .f32⟩
  | 34 => ⟨S32x64x41, .f32⟩
  | 35 => ⟨S_, .f32⟩
  | 36 => ⟨S32x64x41, .f32⟩
  | 37 => ⟨S32x64x41, .f32⟩
  | 38 => ⟨S_, .f32⟩
  | 39 => ⟨S32x64x41, .f32⟩
  | 40 => ⟨S32x64x41, .f32⟩
  | 41 => ⟨S_, .f32⟩
  | 42 => ⟨S32x64x41, .f32⟩
  | 43 => ⟨S32x64x41, .f32⟩
  | 44 => ⟨S_, .f32⟩
  | 45 => ⟨S32x64x41, .f32⟩
  | 46 => ⟨S32x64x41, .f32⟩
  | 47 => ⟨S_, .f32⟩
  | 48 => ⟨S32x64x41, .f32⟩
  | 49 => ⟨S32x64x41, .f32⟩
  | 50 => ⟨S32x64x41, .f32⟩
  | 51 => ⟨S_, .f32⟩
  | 52 => ⟨S32x64x41, .f32⟩
  | 53 => ⟨S32x64x41, .f32⟩
  | 54 => ⟨S32x64x41, .f32⟩
  | 55 => ⟨S_, .f32⟩
  | 56 => ⟨S32x64x41, .f32⟩
  | 57 => ⟨S32x64x41, .f32⟩
  | 58 => ⟨S32x64x41, .f32⟩
  | 59 => ⟨S_, .f32⟩
  | 60 => ⟨S32x64x41, .f32⟩
  | 61 => ⟨S32x64x41, .f32⟩
  | 62 => ⟨S32x64x41, .f32⟩
  | 63 => ⟨S_, .f32⟩
  | 64 => ⟨S32x64x41, .f32⟩
  | 65 => ⟨S32x64x41, .f32⟩
  | 66 => ⟨S32, .i32⟩
  | 67 => ⟨S32x1x1, .i32⟩
  | 68 => ⟨S32x64x41, .i32⟩
  | 69 => ⟨S64, .i32⟩
  | 70 => ⟨S1x64x1, .i32⟩
  | 71 => ⟨S32x64x41, .i32⟩
  | 72 => ⟨S_, .f32⟩
  | 73 => ⟨S32x64x41, .f32⟩
  | 74 => ⟨S32x64x41, .i1⟩
  | 75 => ⟨S_, .f32⟩
  | 76 => ⟨S32x64x41, .f32⟩
  | 77 => ⟨S32x64x41, .i1⟩
  | 78 => ⟨S32x64x41, .i1⟩
  | 79 => ⟨S_, .f32⟩
  | 80 => ⟨S32x64x41, .f32⟩
  | 81 => ⟨S32x64x41, .i1⟩
  | 82 => ⟨S32x64x41, .i1⟩
  | 83 => ⟨S_, .f32⟩
  | 84 => ⟨S32x64x41, .f32⟩
  | 85 => ⟨S32x64x41, .i1⟩
  | 86 => ⟨S32x64x41, .i1⟩
  | 87 => ⟨S32x64x41, .f32⟩
  | 88 => ⟨S_, .i32⟩
  | 89 => ⟨S_, .i32⟩
  | 90 => ⟨S_, .f32⟩
  | 91 => ⟨S32x64x41, .f32⟩
  | 92 => ⟨S32x64x41, .f32⟩
  | 93 => ⟨S_, .f32⟩
  | 94 => ⟨S32x64x41, .f32⟩
  | 95 => ⟨S32x64x41, .f32⟩
  | 96 => ⟨S32x64x41, .i32⟩
  | 97 => ⟨S_, .i32⟩
  | 98 => ⟨S_, .i32⟩
  | 99 => ⟨S_, .f32⟩
  | 100 => ⟨S32x64x41, .f32⟩
  | 101 => ⟨S32x64x41, .f32⟩
  | 102 => ⟨S_, .f32⟩
  | 103 => ⟨S32x64x41, .f32⟩
  | 104 => ⟨S32x64x41, .f32⟩
  | 105 => ⟨S32x64x41, .i32⟩
  | 106 => ⟨S32x64x41x1, .i32⟩
  | 107 => ⟨S32x64x41x1, .i32⟩
  | 108 => ⟨S32x64x41x1, .i32⟩
  | 109 => ⟨S32x64x41x1, .i32⟩
  | 110 => ⟨S32x64x41x4, .i32⟩
  | 111 => ⟨S4x32x64x41, .f32⟩
  | 112 => ⟨S1x32x64x41, .f32⟩
  | 113 => ⟨S4x32x64x41, .f32⟩
  | 114 => ⟨S4x32x64x41, .f32⟩
  | 115 => ⟨S32x64x41, .f32⟩
  | 116 => ⟨S1x32x64x41, .f32⟩
  | 117 => ⟨S4x32x64x41, .f32⟩
  | 118 => ⟨S4x32x64x41, .f32⟩
  | 119 => ⟨S_, .f32⟩
  | 120 => ⟨S32x64x41, .f32⟩
  | 121 => ⟨S32x64x41, .i1⟩
  | 122 => ⟨S_, .f32⟩
  | 123 => ⟨S32x64x41, .f32⟩
  | 124 => ⟨S32x64x41, .i1⟩
  | 125 => ⟨S32x64x41, .i1⟩
  | 126 => ⟨S_, .f32⟩
  | 127 => ⟨S32x64x41, .f32⟩
  | _ => ⟨S4x256x32x64, .f32⟩

abbrev hbmTy0_4 (i : Nat) : BufTy := match i % 128 with
  | 0 => ⟨S32x64x41, .i1⟩
  | 1 => ⟨S32x64x41, .i1⟩
  | 2 => ⟨S_, .f32⟩
  | 3 => ⟨S32x64x41, .f32⟩
  | 4 => ⟨S32x64x41, .i1⟩
  | 5 => ⟨S32x64x41, .i1⟩
  | 6 => ⟨S32x64x41, .f32⟩
  | 7 => ⟨S_, .i32⟩
  | 8 => ⟨S_, .i32⟩
  | 9 => ⟨S_, .f32⟩
  | 10 => ⟨S32x64x41, .f32⟩
  | 11 => ⟨S32x64x41, .f32⟩
  | 12 => ⟨S_, .f32⟩
  | 13 => ⟨S32x64x41, .f32⟩
  | 14 => ⟨S32x64x41, .f32⟩
  | 15 => ⟨S32x64x41, .i32⟩
  | 16 => ⟨S_, .i32⟩
  | 17 => ⟨S_, .i32⟩
  | 18 => ⟨S_, .f32⟩
  | 19 => ⟨S32x64x41, .f32⟩
  | 20 => ⟨S32x64x41, .f32⟩
  | 21 => ⟨S_, .f32⟩
  | 22 => ⟨S32x64x41, .f32⟩
  | 23 => ⟨S32x64x41, .f32⟩
  | 24 => ⟨S32x64x41, .i32⟩
  | 25 => ⟨S32x64x41x1, .i32⟩
  | 26 => ⟨S32x64x41x1, .i32⟩
  | 27 => ⟨S32x64x41x1, .i32⟩
  | 28 => ⟨S32x64x41x1, .i32⟩
  | 29 => ⟨S32x64x41x4, .i32⟩
  | 30 => ⟨S4x32x64x41, .f32⟩
  | 31 => ⟨S1x32x64x41, .f32⟩
  | 32 => ⟨S4x32x64x41, .f32⟩
  | 33 => ⟨S4x32x64x41, .f32⟩
  | 34 => ⟨S32x64x41, .f32⟩
  | 35 => ⟨S1x32x64x41, .f32⟩
  | 36 => ⟨S4x32x64x41, .f32⟩
  | 37 => ⟨S4x32x64x41, .f32⟩
  | 38 => ⟨S4x32x64x41, .f32⟩
  | 39 => ⟨S_, .f32⟩
  | 40 => ⟨S32x64x41, .f32⟩
  | 41 => ⟨S32x64x41, .i1⟩
  | 42 => ⟨S_, .f32⟩
  | 43 => ⟨S32x64x41, .f32⟩
  | 44 => ⟨S32x64x41, .i1⟩
  | 45 => ⟨S32x64x41, .i1⟩
  | 46 => ⟨S_, .f32⟩
  | 47 => ⟨S32x64x41, .f32⟩
  | 48 => ⟨S32x64x41, .i1⟩
  | 49 => ⟨S32x64x41, .i1⟩
  | 50 => ⟨S_, .f32⟩
  | 51 => ⟨S32x64x41, .f32⟩
  | 52 => ⟨S32x64x41, .i1⟩
  | 53 => ⟨S32x64x41, .i1⟩
  | 54 => ⟨S32x64x41, .f32⟩
  | 55 => ⟨S_, .i32⟩
  | 56 => ⟨S_, .i32⟩
  | 57 => ⟨S_, .f32⟩
  | 58 => ⟨S32x64x41, .f32⟩
  | 59 => ⟨S32x64x41, .f32⟩
  | 60 => ⟨S_, .f32⟩
  | 61 => ⟨S32x64x41, .f32⟩
  | 62 => ⟨S32x64x41, .f32⟩
  | 63 => ⟨S32x64x41, .i32⟩
  | 64 => ⟨S_, .i32⟩
  | 65 => ⟨S_, .i32⟩
  | 66 => ⟨S_, .f32⟩
  | 67 => ⟨S32x64x41, .f32⟩
  | 68 => ⟨S32x64x41, .f32⟩
  | 69 => ⟨S_, .f32⟩
  | 70 => ⟨S32x64x41, .f32⟩
  | 71 => ⟨S32x64x41, .f32⟩
  | 72 => ⟨S32x64x41, .i32⟩
  | 73 => ⟨S32x64x41x1, .i32⟩
  | 74 => ⟨S32x64x41x1, .i32⟩
  | 75 => ⟨S32x64x41x1, .i32⟩
  | 76 => ⟨S32x64x41x1, .i32⟩
  | 77 => ⟨S32x64x41x4, .i32⟩
  | 78 => ⟨S4x32x64x41, .f32⟩
  | 79 => ⟨S1x32x64x41, .f32⟩
  | 80 => ⟨S4x32x64x41, .f32⟩
  | 81 => ⟨S4x32x64x41, .f32⟩
  | 82 => ⟨S32x64x41, .f32⟩
  | 83 => ⟨S1x32x64x41, .f32⟩
  | 84 => ⟨S4x32x64x41, .f32⟩
  | 85 => ⟨S4x32x64x41, .f32⟩
  | 86 => ⟨S4x32x64x41, .f32⟩
  | 87 => ⟨S_, .f32⟩
  | 88 => ⟨S32x64x41, .f32⟩
  | 89 => ⟨S32x64x41, .i1⟩
  | 90 => ⟨S_, .f32⟩
  | 91 => ⟨S32x64x41, .f32⟩
  | 92 => ⟨S32x64x41, .i1⟩
  | 93 => ⟨S32x64x41, .i1⟩
  | 94 => ⟨S_, .f32⟩
  | 95 => ⟨S32x64x41, .f32⟩
  | 96 => ⟨S32x64x41, .i1⟩
  | 97 => ⟨S32x64x41, .i1⟩
  | 98 => ⟨S_, .f32⟩
  | 99 => ⟨S32x64x41, .f32⟩
  | 100 => ⟨S32x64x41, .i1⟩
  | 101 => ⟨S32x64x41, .i1⟩
  | 102 => ⟨S32x64x41, .f32⟩
  | 103 => ⟨S_, .i32⟩
  | 104 => ⟨S_, .i32⟩
  | 105 => ⟨S_, .f32⟩
  | 106 => ⟨S32x64x41, .f32⟩
  | 107 => ⟨S32x64x41, .f32⟩
  | 108 => ⟨S_, .f32⟩
  | 109 => ⟨S32x64x41, .f32⟩
  | 110 => ⟨S32x64x41, .f32⟩
  | 111 => ⟨S32x64x41, .i32⟩
  | 112 => ⟨S_, .i32⟩
  | 113 => ⟨S_, .i32⟩
  | 114 => ⟨S_, .f32⟩
  | 115 => ⟨S32x64x41, .f32⟩
  | 116 => ⟨S32x64x41, .f32⟩
  | 117 => ⟨S_, .f32⟩
  | 118 => ⟨S32x64x41, .f32⟩
  | 119 => ⟨S32x64x41, .f32⟩
  | 120 => ⟨S32x64x41, .i32⟩
  | 121 => ⟨S32x64x41x1, .i32⟩
  | 122 => ⟨S32x64x41x1, .i32⟩
  | 123 => ⟨S32x64x41x1, .i32⟩
  | 124 => ⟨S32x64x41x1, .i32⟩
  | 125 => ⟨S32x64x41x4, .i32⟩
  | 126 => ⟨S4x32x64x41, .f32⟩
  | 127 => ⟨S1x32x64x41, .f32⟩
  | _ => ⟨S4x256x32x64, .f32⟩

abbrev hbmTy0_5 (i : Nat) : BufTy := match i % 128 with
  | 0 => ⟨S4x32x64x41, .f32⟩
  | 1 => ⟨S4x32x64x41, .f32⟩
  | 2 => ⟨S32x64x41, .f32⟩
  | 3 => ⟨S1x32x64x41, .f32⟩
  | 4 => ⟨S4x32x64x41, .f32⟩
  | 5 => ⟨S4x32x64x41, .f32⟩
  | 6 => ⟨S4x32x64x41, .f32⟩
  | 7 => ⟨S4x41x32x64, .f32⟩
  | 8 => ⟨S4x41x1x32x64, .f32⟩
  | 9 => ⟨S32, .f32⟩
  | 10 => ⟨S32x1x1, .f32⟩
  | 11 => ⟨S64, .f32⟩
  | 12 => ⟨S1x64x1, .f32⟩
  | 13 => ⟨S1x1x41, .f32⟩
  | 14 => ⟨S1x1x41, .f32⟩
  | 15 => ⟨S1x32x64, .f32⟩
  | 16 => ⟨S32x64, .f32⟩
  | 17 => ⟨S32x64x1, .f32⟩
  | 18 => ⟨S1x32x64, .f32⟩
  | 19 => ⟨S32x64, .f32⟩
  | 20 => ⟨S32x64x1, .f32⟩
  | 21 => ⟨S_, .f32⟩
  | 22 => ⟨S1x64x1, .f32⟩
  | 23 => ⟨S1x64x1, .f32⟩
  | 24 => ⟨S_, .f32⟩
  | 25 => ⟨S32x64x1, .f32⟩
  | 26 => ⟨S32x64x1, .f32⟩
  | 27 => ⟨S32x64x1, .f32⟩
  | 28 => ⟨S32x64x1, .f32⟩
  | 29 => ⟨S32x64x41, .f32⟩
  | 30 => ⟨S32x64x41, .f32⟩
  | 31 => ⟨S32x64x41, .f32⟩
  | 32 => ⟨S_, .f32⟩
  | 33 => ⟨S32x64x41, .f32⟩
  | 34 => ⟨S32x64x41, .f32⟩
  | 35 => ⟨S_, .f32⟩
  | 36 => ⟨S32x64x41, .f32⟩
  | 37 => ⟨S32x64x41, .f32⟩
  | 38 => ⟨S_, .f32⟩
  | 39 => ⟨S32x1x1, .f32⟩
  | 40 => ⟨S32x1x1, .f32⟩
  | 41 => ⟨S_, .f32⟩
  | 42 => ⟨S32x64x1, .f32⟩
  | 43 => ⟨S32x64x1, .f32⟩
  | 44 => ⟨S32x64x1, .f32⟩
  | 45 => ⟨S32x64x1, .f32⟩
  | 46 => ⟨S32x64x41, .f32⟩
  | 47 => ⟨S32x64x41, .f32⟩
  | 48 => ⟨S32x64x41, .f32⟩
  | 49 => ⟨S_, .f32⟩
  | 50 => ⟨S32x64x41, .f32⟩
  | 51 => ⟨S32x64x41, .f32⟩
  | 52 => ⟨S_, .f32⟩
  | 53 => ⟨S32x64x41, .f32⟩
  | 54 => ⟨S32x64x41, .f32⟩
  | 55 => ⟨S_, .f32⟩
  | 56 => ⟨S32x64x41, .f32⟩
  | 57 => ⟨S32x64x41, .f32⟩
  | 58 => ⟨S_, .f32⟩
  | 59 => ⟨S32x64x41, .f32⟩
  | 60 => ⟨S32x64x41, .f32⟩
  | 61 => ⟨S_, .f32⟩
  | 62 => ⟨S32x64x41, .f32⟩
  | 63 => ⟨S32x64x41, .f32⟩
  | 64 => ⟨S_, .f32⟩
  | 65 => ⟨S32x64x41, .f32⟩
  | 66 => ⟨S32x64x41, .f32⟩
  | 67 => ⟨S_, .f32⟩
  | 68 => ⟨S32x64x41, .f32⟩
  | 69 => ⟨S32x64x41, .f32⟩
  | 70 => ⟨S_, .f32⟩
  | 71 => ⟨S32x64x41, .f32⟩
  | 72 => ⟨S32x64x41, .f32⟩
  | 73 => ⟨S32x64x41, .f32⟩
  | 74 => ⟨S_, .f32⟩
  | 75 => ⟨S32x64x41, .f32⟩
  | 76 => ⟨S32x64x41, .f32⟩
  | 77 => ⟨S32x64x41, .f32⟩
  | 78 => ⟨S_, .f32⟩
  | 79 => ⟨S32x64x41, .f32⟩
  | 80 => ⟨S32x64x41, .f32⟩
  | 81 => ⟨S32x64x41, .f32⟩
  | 82 => ⟨S_, .f32⟩
  | 83 => ⟨S32x64x41, .f32⟩
  | 84 => ⟨S32x64x41, .f32⟩
  | 85 => ⟨S32x64x41, .f32⟩
  | 86 => ⟨S_, .f32⟩
  | 87 => ⟨S32x64x41, .f32⟩
  | 88 => ⟨S32x64x41, .f32⟩
  | 89 => ⟨S32, .i32⟩
  | 90 => ⟨S32x1x1, .i32⟩
  | 91 => ⟨S32x64x41, .i32⟩
  | 92 => ⟨S64, .i32⟩
  | 93 => ⟨S1x64x1, .i32⟩
  | 94 => ⟨S32x64x41, .i32⟩
  | 95 => ⟨S_, .f32⟩
  | 96 => ⟨S32x64x41, .f32⟩
  | 97 => ⟨S32x64x41, .i1⟩
  | 98 => ⟨S_, .f32⟩
  | 99 => ⟨S32x64x41, .f32⟩
  | 100 => ⟨S32x64x41, .i1⟩
  | 101 => ⟨S32x64x41, .i1⟩
  | 102 => ⟨S_, .f32⟩
  | 103 => ⟨S32x64x41, .f32⟩
  | 104 => ⟨S32x64x41, .i1⟩
  | 105 => ⟨S32x64x41, .i1⟩
  | 106 => ⟨S_, .f32⟩
  | 107 => ⟨S32x64x41, .f32⟩
  | 108 => ⟨S32x64x41, .i1⟩
  | 109 => ⟨S32x64x41, .i1⟩
  | 110 => ⟨S32x64x41, .f32⟩
  | 111 => ⟨S_, .i32⟩
  | 112 => ⟨S_, .i32⟩
  | 113 => ⟨S_, .f32⟩
  | 114 => ⟨S32x64x41, .f32⟩
  | 115 => ⟨S32x64x41, .f32⟩
  | 116 => ⟨S_, .f32⟩
  | 117 => ⟨S32x64x41, .f32⟩
  | 118 => ⟨S32x64x41, .f32⟩
  | 119 => ⟨S32x64x41, .i32⟩
  | 120 => ⟨S_, .i32⟩
  | 121 => ⟨S_, .i32⟩
  | 122 => ⟨S_, .f32⟩
  | 123 => ⟨S32x64x41, .f32⟩
  | 124 => ⟨S32x64x41, .f32⟩
  | 125 => ⟨S_, .f32⟩
  | 126 => ⟨S32x64x41, .f32⟩
  | 127 => ⟨S32x64x41, .f32⟩
  | _ => ⟨S4x256x32x64, .f32⟩

abbrev hbmTy0_6 (i : Nat) : BufTy := match i % 128 with
  | 0 => ⟨S32x64x41, .i32⟩
  | 1 => ⟨S32x64x41x1, .i32⟩
  | 2 => ⟨S32x64x41x1, .i32⟩
  | 3 => ⟨S32x64x41x1, .i32⟩
  | 4 => ⟨S32x64x41x1, .i32⟩
  | 5 => ⟨S32x64x41x4, .i32⟩
  | 6 => ⟨S4x32x64x41, .f32⟩
  | 7 => ⟨S1x32x64x41, .f32⟩
  | 8 => ⟨S4x32x64x41, .f32⟩
  | 9 => ⟨S4x32x64x41, .f32⟩
  | 10 => ⟨S32x64x41, .f32⟩
  | 11 => ⟨S1x32x64x41, .f32⟩
  | 12 => ⟨S4x32x64x41, .f32⟩
  | 13 => ⟨S4x32x64x41, .f32⟩
  | 14 => ⟨S_, .f32⟩
  | 15 => ⟨S32x64x41, .f32⟩
  | 16 => ⟨S32x64x41, .i1⟩
  | 17 => ⟨S_, .f32⟩
  | 18 => ⟨S32x64x41, .f32⟩
  | 19 => ⟨S32x64x41, .i1⟩
  | 20 => ⟨S32x64x41, .i1⟩
  | 21 => ⟨S_, .f32⟩
  | 22 => ⟨S32x64x41, .f32⟩
  | 23 => ⟨S32x64x41, .i1⟩
  | 24 => ⟨S32x64x41, .i1⟩
  | 25 => ⟨S_, .f32⟩
  | 26 => ⟨S32x64x41, .f32⟩
  | 27 => ⟨S32x64x41, .i1⟩
  | 28 => ⟨S32x64x41, .i1⟩
  | 29 => ⟨S32x64x41, .f32⟩
  | 30 => ⟨S_, .i32⟩
  | 31 => ⟨S_, .i32⟩
  | 32 => ⟨S_, .f32⟩
  | 33 => ⟨S32x64x41, .f32⟩
  | 34 => ⟨S32x64x41, .f32⟩
  | 35 => ⟨S_, .f32⟩
  | 36 => ⟨S32x64x41, .f32⟩
  | 37 => ⟨S32x64x41, .f32⟩
  | 38 => ⟨S32x64x41, .i32⟩
  | 39 => ⟨S_, .i32⟩
  | 40 => ⟨S_, .i32⟩
  | 41 => ⟨S_, .f32⟩
  | 42 => ⟨S32x64x41, .f32⟩
  | 43 => ⟨S32x64x41, .f32⟩
  | 44 => ⟨S_, .f32⟩
  | 45 => ⟨S32x64x41, .f32⟩
  | 46 => ⟨S32x64x41, .f32⟩
  | 47 => ⟨S32x64x41, .i32⟩
  | 48 => ⟨S32x64x41x1, .i32⟩
  | 49 => ⟨S32x64x41x1, .i32⟩
  | 50 => ⟨S32x64x41x1, .i32⟩
  | 51 => ⟨S32x64x41x1, .i32⟩
  | 52 => ⟨S32x64x41x4, .i32⟩
  | 53 => ⟨S4x32x64x41, .f32⟩
  | 54 => ⟨S1x32x64x41, .f32⟩
  | 55 => ⟨S4x32x64x41, .f32⟩
  | 56 => ⟨S4x32x64x41, .f32⟩
  | 57 => ⟨S32x64x41, .f32⟩
  | 58 => ⟨S1x32x64x41, .f32⟩
  | 59 => ⟨S4x32x64x41, .f32⟩
  | 60 => ⟨S4x32x64x41, .f32⟩
  | 61 => ⟨S4x32x64x41, .f32⟩
  | 62 => ⟨S_, .f32⟩
  | 63 => ⟨S32x64x41, .f32⟩
  | 64 => ⟨S32x64x41, .i1⟩
  | 65 => ⟨S_, .f32⟩
  | 66 => ⟨S32x64x41, .f32⟩
  | 67 => ⟨S32x64x41, .i1⟩
  | 68 => ⟨S32x64x41, .i1⟩
  | 69 => ⟨S_, .f32⟩
  | 70 => ⟨S32x64x41, .f32⟩
  | 71 => ⟨S32x64x41, .i1⟩
  | 72 => ⟨S32x64x41, .i1⟩
  | 73 => ⟨S_, .f32⟩
  | 74 => ⟨S32x64x41, .f32⟩
  | 75 => ⟨S32x64x41, .i1⟩
  | 76 => ⟨S32x64x41, .i1⟩
  | 77 => ⟨S32x64x41, .f32⟩
  | 78 => ⟨S_, .i32⟩
  | 79 => ⟨S_, .i32⟩
  | 80 => ⟨S_, .f32⟩
  | 81 => ⟨S32x64x41, .f32⟩
  | 82 => ⟨S32x64x41, .f32⟩
  | 83 => ⟨S_, .f32⟩
  | 84 => ⟨S32x64x41, .f32⟩
  | 85 => ⟨S32x64x41, .f32⟩
  | 86 => ⟨S32x64x41, .i32⟩
  | 87 => ⟨S_, .i32⟩
  | 88 => ⟨S_, .i32⟩
  | 89 => ⟨S_, .f32⟩
  | 90 => ⟨S32x64x41, .f32⟩
  | 91 => ⟨S32x64x41, .f32⟩
  | 92 => ⟨S_, .f32⟩
  | 93 => ⟨S32x64x41, .f32⟩
  | 94 => ⟨S32x64x41, .f32⟩
  | 95 => ⟨S32x64x41, .i32⟩
  | 96 => ⟨S32x64x41x1, .i32⟩
  | 97 => ⟨S32x64x41x1, .i32⟩
  | 98 => ⟨S32x64x41x1, .i32⟩
  | 99 => ⟨S32x64x41x1, .i32⟩
  | 100 => ⟨S32x64x41x4, .i32⟩
  | 101 => ⟨S4x32x64x41, .f32⟩
  | 102 => ⟨S1x32x64x41, .f32⟩
  | 103 => ⟨S4x32x64x41, .f32⟩
  | 104 => ⟨S4x32x64x41, .f32⟩
  | 105 => ⟨S32x64x41, .f32⟩
  | 106 => ⟨S1x32x64x41, .f32⟩
  | 107 => ⟨S4x32x64x41, .f32⟩
  | 108 => ⟨S4x32x64x41, .f32⟩
  | 109 => ⟨S4x32x64x41, .f32⟩
  | 110 => ⟨S_, .f32⟩
  | 111 => ⟨S32x64x41, .f32⟩
  | 112 => ⟨S32x64x41, .i1⟩
  | 113 => ⟨S_, .f32⟩
  | 114 => ⟨S32x64x41, .f32⟩
  | 115 => ⟨S32x64x41, .i1⟩
  | 116 => ⟨S32x64x41, .i1⟩
  | 117 => ⟨S_, .f32⟩
  | 118 => ⟨S32x64x41, .f32⟩
  | 119 => ⟨S32x64x41, .i1⟩
  | 120 => ⟨S32x64x41, .i1⟩
  | 121 => ⟨S_, .f32⟩
  | 122 => ⟨S32x64x41, .f32⟩
  | 123 => ⟨S32x64x41, .i1⟩
  | 124 => ⟨S32x64x41, .i1⟩
  | 125 => ⟨S32x64x41, .f32⟩
  | 126 => ⟨S_, .i32⟩
  | 127 => ⟨S_, .i32⟩
  | _ => ⟨S4x256x32x64, .f32⟩

abbrev hbmTy0_7 (i : Nat) : BufTy := match i % 128 with
  | 0 => ⟨S_, .f32⟩
  | 1 => ⟨S32x64x41, .f32⟩
  | 2 => ⟨S32x64x41, .f32⟩
  | 3 => ⟨S_, .f32⟩
  | 4 => ⟨S32x64x41, .f32⟩
  | 5 => ⟨S32x64x41, .f32⟩
  | 6 => ⟨S32x64x41, .i32⟩
  | 7 => ⟨S_, .i32⟩
  | 8 => ⟨S_, .i32⟩
  | 9 => ⟨S_, .f32⟩
  | 10 => ⟨S32x64x41, .f32⟩
  | 11 => ⟨S32x64x41, .f32⟩
  | 12 => ⟨S_, .f32⟩
  | 13 => ⟨S32x64x41, .f32⟩
  | 14 => ⟨S32x64x41, .f32⟩
  | 15 => ⟨S32x64x41, .i32⟩
  | 16 => ⟨S32x64x41x1, .i32⟩
  | 17 => ⟨S32x64x41x1, .i32⟩
  | 18 => ⟨S32x64x41x1, .i32⟩
  | 19 => ⟨S32x64x41x1, .i32⟩
  | 20 => ⟨S32x64x41x4, .i32⟩
  | 21 => ⟨S4x32x64x41, .f32⟩
  | 22 => ⟨S1x32x64x41, .f32⟩
  | 23 => ⟨S4x32x64x41, .f32⟩
  | 24 => ⟨S4x32x64x41, .f32⟩
  | 25 => ⟨S32x64x41, .f32⟩
  | 26 => ⟨S1x32x64x41, .f32⟩
  | 27 => ⟨S4x32x64x41, .f32⟩
  | 28 => ⟨S4x32x64x41, .f32⟩
  | 29 => ⟨S4x32x64x41, .f32⟩
  | 30 => ⟨S4x41x32x64, .f32⟩
  | 31 => ⟨S4x41x1x32x64, .f32⟩
  | 32 => ⟨S32, .f32⟩
  | 33 => ⟨S32x1x1, .f32⟩
  | 34 => ⟨S64, .f32⟩
  | 35 => ⟨S1x64x1, .f32⟩
  | 36 => ⟨S1x1x41, .f32⟩
  | 37 => ⟨S1x1x41, .f32⟩
  | 38 => ⟨S1x32x64, .f32⟩
  | 39 => ⟨S32x64, .f32⟩
  | 40 => ⟨S32x64x1, .f32⟩
  | 41 => ⟨S1x32x64, .f32⟩
  | 42 => ⟨S32x64, .f32⟩
  | 43 => ⟨S32x64x1, .f32⟩
  | 44 => ⟨S_, .f32⟩
  | 45 => ⟨S1x64x1, .f32⟩
  | 46 => ⟨S1x64x1, .f32⟩
  | 47 => ⟨S_, .f32⟩
  | 48 => ⟨S32x64x1, .f32⟩
  | 49 => ⟨S32x64x1, .f32⟩
  | 50 => ⟨S32x64x1, .f32⟩
  | 51 => ⟨S32x64x1, .f32⟩
  | 52 => ⟨S32x64x41, .f32⟩
  | 53 => ⟨S32x64x41, .f32⟩
  | 54 => ⟨S32x64x41, .f32⟩
  | 55 => ⟨S_, .f32⟩
  | 56 => ⟨S32x64x41, .f32⟩
  | 57 => ⟨S32x64x41, .f32⟩
  | 58 => ⟨S_, .f32⟩
  | 59 => ⟨S32x64x41, .f32⟩
  | 60 => ⟨S32x64x41, .f32⟩
  | 61 => ⟨S_, .f32⟩
  | 62 => ⟨S32x1x1, .f32⟩
  | 63 => ⟨S32x1x1, .f32⟩
  | 64 => ⟨S_, .f32⟩
  | 65 => ⟨S32x64x1, .f32⟩
  | 66 => ⟨S32x64x1, .f32⟩
  | 67 => ⟨S32x64x1, .f32⟩
  | 68 => ⟨S32x64x1, .f32⟩
  | 69 => ⟨S32x64x41, .f32⟩
  | 70 => ⟨S32x64x41, .f32⟩
  | 71 => ⟨S32x64x41, .f32⟩
  | 72 => ⟨S_, .f32⟩
  | 73 => ⟨S32x64x41, .f32⟩
  | 74 => ⟨S32x64x41, .f32⟩
  | 75 => ⟨S_, .f32⟩
  | 76 => ⟨S32x64x41, .f32⟩
  | 77 => ⟨S32x64x41, .f32⟩
  | 78 => ⟨S_, .f32⟩
  | 79 => ⟨S32x64x41, .f32⟩
  | 80 => ⟨S32x64x41, .f32⟩
  | 81 => ⟨S_, .f32⟩
  | 82 => ⟨S32x64x41, .f32⟩
  | 83 => ⟨S32x64x41, .f32⟩
  | 84 => ⟨S_, .f32⟩
  | 85 => ⟨S32x64x41, .f32⟩
  | 86 => ⟨S32x64x41, .f32⟩
  | 87 => ⟨S_, .f32⟩
  | 88 => ⟨S32x64x41, .f32⟩
  | 89 => ⟨S32x64x41, .f32⟩
  | 90 => ⟨S_, .f32⟩
  | 91 => ⟨S32x64x41, .f32⟩
  | 92 => ⟨S32x64x41, .f32⟩
  | 93 => ⟨S_, .f32⟩
  | 94 => ⟨S32x64x41, .f32⟩
  | 95 => ⟨S32x64x41, .f32⟩
  | 96 => ⟨S32x64x41, .f32⟩
  | 97 => ⟨S_, .f32⟩
  | 98 => ⟨S32x64x41, .f32⟩
  | 99 => ⟨S32x64x41, .f32⟩
  | 100 => ⟨S32x64x41, .f32⟩
  | 101 => ⟨S_, .f32⟩
  | 102 => ⟨S32x64x41, .f32⟩
  | 103 => ⟨S32x64x41, .f32⟩
  | 104 => ⟨S32x64x41, .f32⟩
  | 105 => ⟨S_, .f32⟩
  | 106 => ⟨S32x64x41, .f32⟩
  | 107 => ⟨S32x64x41, .f32⟩
  | 108 => ⟨S32x64x41, .f32⟩
  | 109 => ⟨S_, .f32⟩
  | 110 => ⟨S32x64x41, .f32⟩
  | 111 => ⟨S32x64x41, .f32⟩
  | 112 => ⟨S32, .i32⟩
  | 113 => ⟨S32x1x1, .i32⟩
  | 114 => ⟨S32x64x41, .i32⟩
  | 115 => ⟨S64, .i32⟩
  | 116 => ⟨S1x64x1, .i32⟩
  | 117 => ⟨S32x64x41, .i32⟩
  | 118 => ⟨S_, .f32⟩
  | 119 => ⟨S32x64x41, .f32⟩
  | 120 => ⟨S32x64x41, .i1⟩
  | 121 => ⟨S_, .f32⟩
  | 122 => ⟨S32x64x41, .f32⟩
  | 123 => ⟨S32x64x41, .i1⟩
  | 124 => ⟨S32x64x41, .i1⟩
  | 125 => ⟨S_, .f32⟩
  | 126 => ⟨S32x64x41, .f32⟩
  | 127 => ⟨S32x64x41, .i1⟩
  | _ => ⟨S4x256x32x64, .f32⟩

abbrev hbmTy0_8 (i : Nat) : BufTy := match i % 128 with
  | 0 => ⟨S32x64x41, .i1⟩
  | 1 => ⟨S_, .f32⟩
  | 2 => ⟨S32x64x41, .f32⟩
  | 3 => ⟨S32x64x41, .i1⟩
  | 4 => ⟨S32x64x41, .i1⟩
  | 5 => ⟨S32x64x41, .f32⟩
  | 6 => ⟨S_, .i32⟩
  | 7 => ⟨S_, .i32⟩
  | 8 => ⟨S_, .f32⟩
  | 9 => ⟨S32x64x41, .f32⟩
  | 10 => ⟨S32x64x41, .f32⟩
  | 11 => ⟨S_, .f32⟩
  | 12 => ⟨S32x64x41, .f32⟩
  | 13 => ⟨S32x64x41, .f32⟩
  | 14 => ⟨S32x64x41, .i32⟩
  | 15 => ⟨S_, .i32⟩
  | 16 => ⟨S_, .i32⟩
  | 17 => ⟨S_, .f32⟩
  | 18 => ⟨S32x64x41, .f32⟩
  | 19 => ⟨S32x64x41, .f32⟩
  | 20 => ⟨S_, .f32⟩
  | 21 => ⟨S32x64x41, .f32⟩
  | 22 => ⟨S32x64x41, .f32⟩
  | 23 => ⟨S32x64x41, .i32⟩
  | 24 => ⟨S32x64x41x1, .i32⟩
  | 25 => ⟨S32x64x41x1, .i32⟩
  | 26 => ⟨S32x64x41x1, .i32⟩
  | 27 => ⟨S32x64x41x1, .i32⟩
  | 28 => ⟨S32x64x41x4, .i32⟩
  | 29 => ⟨S4x32x64x41, .f32⟩
  | 30 => ⟨S1x32x64x41, .f32⟩
  | 31 => ⟨S4x32x64x41, .f32⟩
  | 32 => ⟨S4x32x64x41, .f32⟩
  | 33 => ⟨S32x64x41, .f32⟩
  | 34 => ⟨S1x32x64x41, .f32⟩
  | 35 => ⟨S4x32x64x41, .f32⟩
  | 36 => ⟨S4x32x64x41, .f32⟩
  | 37 => ⟨S_, .f32⟩
  | 38 => ⟨S32x64x41, .f32⟩
  | 39 => ⟨S32x64x41, .i1⟩
  | 40 => ⟨S_, .f32⟩
  | 41 => ⟨S32x64x41, .f32⟩
  | 42 => ⟨S32x64x41, .i1⟩
  | 43 => ⟨S32x64x41, .i1⟩
  | 44 => ⟨S_, .f32⟩
  | 45 => ⟨S32x64x41, .f32⟩
  | 46 => ⟨S32x64x41, .i1⟩
  | 47 => ⟨S32x64x41, .i1⟩
  | 48 => ⟨S_, .f32⟩
  | 49 => ⟨S32x64x41, .f32⟩
  | 50 => ⟨S32x64x41, .i1⟩
  | 51 => ⟨S32x64x41, .i1⟩
  | 52 => ⟨S32x64x41, .f32⟩
  | 53 => ⟨S_, .i32⟩
  | 54 => ⟨S_, .i32⟩
  | 55 => ⟨S_, .f32⟩
  | 56 => ⟨S32x64x41, .f32⟩
  | 57 => ⟨S32x64x41, .f32⟩
  | 58 => ⟨S_, .f32⟩
  | 59 => ⟨S32x64x41, .f32⟩
  | 60 => ⟨S32x64x41, .f32⟩
  | 61 => ⟨S32x64x41, .i32⟩
  | 62 => ⟨S_, .i32⟩
  | 63 => ⟨S_, .i32⟩
  | 64 => ⟨S_, .f32⟩
  | 65 => ⟨S32x64x41, .f32⟩
  | 66 => ⟨S32x64x41, .f32⟩
  | 67 => ⟨S_, .f32⟩
  | 68 => ⟨S32x64x41, .f32⟩
  | 69 => ⟨S32x64x41, .f32⟩
  | 70 => ⟨S32x64x41, .i32⟩
  | 71 => ⟨S32x64x41x1, .i32⟩
  | 72 => ⟨S32x64x41x1, .i32⟩
  | 73 => ⟨S32x64x41x1, .i32⟩
  | 74 => ⟨S32x64x41x1, .i32⟩
  | 75 => ⟨S32x64x41x4, .i32⟩
  | 76 => ⟨S4x32x64x41, .f32⟩
  | 77 => ⟨S1x32x64x41, .f32⟩
  | 78 => ⟨S4x32x64x41, .f32⟩
  | 79 => ⟨S4x32x64x41, .f32⟩
  | 80 => ⟨S32x64x41, .f32⟩
  | 81 => ⟨S1x32x64x41, .f32⟩
  | 82 => ⟨S4x32x64x41, .f32⟩
  | 83 => ⟨S4x32x64x41, .f32⟩
  | 84 => ⟨S4x32x64x41, .f32⟩
  | 85 => ⟨S_, .f32⟩
  | 86 => ⟨S32x64x41, .f32⟩
  | 87 => ⟨S32x64x41, .i1⟩
  | 88 => ⟨S_, .f32⟩
  | 89 => ⟨S32x64x41, .f32⟩
  | 90 => ⟨S32x64x41, .i1⟩
  | 91 => ⟨S32x64x41, .i1⟩
  | 92 => ⟨S_, .f32⟩
  | 93 => ⟨S32x64x41, .f32⟩
  | 94 => ⟨S32x64x41, .i1⟩
  | 95 => ⟨S32x64x41, .i1⟩
  | 96 => ⟨S_, .f32⟩
  | 97 => ⟨S32x64x41, .f32⟩
  | 98 => ⟨S32x64x41, .i1⟩
  | 99 => ⟨S32x64x41, .i1⟩
  | 100 => ⟨S32x64x41, .f32⟩
  | 101 => ⟨S_, .i32⟩
  | 102 => ⟨S_, .i32⟩
  | 103 => ⟨S_, .f32⟩
  | 104 => ⟨S32x64x41, .f32⟩
  | 105 => ⟨S32x64x41, .f32⟩
  | 106 => ⟨S_, .f32⟩
  | 107 => ⟨S32x64x41, .f32⟩
  | 108 => ⟨S32x64x41, .f32⟩
  | 109 => ⟨S32x64x41, .i32⟩
  | 110 => ⟨S_, .i32⟩
  | 111 => ⟨S_, .i32⟩
  | 112 => ⟨S_, .f32⟩
  | 113 => ⟨S32x64x41, .f32⟩
  | 114 => ⟨S32x64x41, .f32⟩
  | 115 => ⟨S_, .f32⟩
  | 116 => ⟨S32x64x41, .f32⟩
  | 117 => ⟨S32x64x41, .f32⟩
  | 118 => ⟨S32x64x41, .i32⟩
  | 119 => ⟨S32x64x41x1, .i32⟩
  | 120 => ⟨S32x64x41x1, .i32⟩
  | 121 => ⟨S32x64x41x1, .i32⟩
  | 122 => ⟨S32x64x41x1, .i32⟩
  | 123 => ⟨S32x64x41x4, .i32⟩
  | 124 => ⟨S4x32x64x41, .f32⟩
  | 125 => ⟨S1x32x64x41, .f32⟩
  | 126 => ⟨S4x32x64x41, .f32⟩
  | 127 => ⟨S4x32x64x41, .f32⟩
  | _ => ⟨S4x256x32x64, .f32⟩

abbrev hbmTy0_9 (i : Nat) : BufTy := match i % 128 with
  | 0 => ⟨S32x64x41, .f32⟩
  | 1 => ⟨S1x32x64x41, .f32⟩
  | 2 => ⟨S4x32x64x41, .f32⟩
  | 3 => ⟨S4x32x64x41, .f32⟩
  | 4 => ⟨S4x32x64x41, .f32⟩
  | 5 => ⟨S_, .f32⟩
  | 6 => ⟨S32x64x41, .f32⟩
  | 7 => ⟨S32x64x41, .i1⟩
  | 8 => ⟨S_, .f32⟩
  | 9 => ⟨S32x64x41, .f32⟩
  | 10 => ⟨S32x64x41, .i1⟩
  | 11 => ⟨S32x64x41, .i1⟩
  | 12 => ⟨S_, .f32⟩
  | 13 => ⟨S32x64x41, .f32⟩
  | 14 => ⟨S32x64x41, .i1⟩
  | 15 => ⟨S32x64x41, .i1⟩
  | 16 => ⟨S_, .f32⟩
  | 17 => ⟨S32x64x41, .f32⟩
  | 18 => ⟨S32x64x41, .i1⟩
  | 19 => ⟨S32x64x41, .i1⟩
  | 20 => ⟨S32x64x41, .f32⟩
  | 21 => ⟨S_, .i32⟩
  | 22 => ⟨S_, .i32⟩
  | 23 => ⟨S_, .f32⟩
  | 24 => ⟨S32x64x41, .f32⟩
  | 25 => ⟨S32x64x41, .f32⟩
  | 26 => ⟨S_, .f32⟩
  | 27 => ⟨S32x64x41, .f32⟩
  | 28 => ⟨S32x64x41, .f32⟩
  | 29 => ⟨S32x64x41, .i32⟩
  | 30 => ⟨S_, .i32⟩
  | 31 => ⟨S_, .i32⟩
  | 32 => ⟨S_, .f32⟩
  | 33 => ⟨S32x64x41, .f32⟩
  | 34 => ⟨S32x64x41, .f32⟩
  | 35 => ⟨S_, .f32⟩
  | 36 => ⟨S32x64x41, .f32⟩
  | 37 => ⟨S32x64x41, .f32⟩
  | 38 => ⟨S32x64x41, .i32⟩
  | 39 => ⟨S32x64x41x1, .i32⟩
  | 40 => ⟨S32x64x41x1, .i32⟩
  | 41 => ⟨S32x64x41x1, .i32⟩
  | 42 => ⟨S32x64x41x1, .i32⟩
  | 43 => ⟨S32x64x41x4, .i32⟩
  | 44 => ⟨S4x32x64x41, .f32⟩
  | 45 => ⟨S1x32x64x41, .f32⟩
  | 46 => ⟨S4x32x64x41, .f32⟩
  | 47 => ⟨S4x32x64x41, .f32⟩
  | 48 => ⟨S32x64x41, .f32⟩
  | 49 => ⟨S1x32x64x41, .f32⟩
  | 50 => ⟨S4x32x64x41, .f32⟩
  | 51 => ⟨S4x32x64x41, .f32⟩
  | 52 => ⟨S4x32x64x41, .f32⟩
  | 53 => ⟨S4x41x32x64, .f32⟩
  | 54 => ⟨S4x41x1x32x64, .f32⟩
  | 55 => ⟨S4x41x32x64, .f32⟩
  | 56 => ⟨S4x41x32x64, .f32⟩
  | 57 => ⟨S4x41x32x64, .f32⟩
  | 58 => ⟨S4x41x32x64, .f32⟩
  | 59 => ⟨S4x41x1x32x64, .f32⟩
  | 60 => ⟨S4x41x1x32x64, .f32⟩
  | 61 => ⟨S4x41x1x32x64, .f32⟩
  | 62 => ⟨S4x41x1x32x64, .f32⟩
  | 63 => ⟨S4x41x4x32x64, .f32⟩
  | 64 => ⟨S4x41x4x2048, .f32⟩
  | _ => ⟨S4x256x32x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S4x256x32x64, .f32⟩

abbrev bufTy : (tb : Table) → Fin (tcTables nBuf tb) → BufTy
  | .hbm, ⟨i, _⟩ => hbmTy i
  | _, _ => ⟨S4x256x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_cst_11 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_cst_14 : Ref sig .tc := ⟨.hbm, 60, rfl⟩
abbrev main_v42 : Ref sig .tc := ⟨.hbm, 61, rfl⟩
abbrev main_cst_15 : Ref sig .tc := ⟨.hbm, 62, rfl⟩
abbrev main_v43 : Ref sig .tc := ⟨.hbm, 63, rfl⟩
abbrev main_cst_16 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_17 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_18 : Ref sig .tc := ⟨.hbm, 74, rfl⟩
abbrev main_v52 : Ref sig .tc := ⟨.hbm, 75, rfl⟩
abbrev main_cst_19 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_20 : Ref sig .tc := ⟨.hbm, 80, rfl⟩
abbrev main_v56 : Ref sig .tc := ⟨.hbm, 81, rfl⟩
abbrev main_cst_21 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_22 : Ref sig .tc := ⟨.hbm, 86, rfl⟩
abbrev main_v60 : Ref sig .tc := ⟨.hbm, 87, rfl⟩
abbrev main_cst_23 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_24 : Ref sig .tc := ⟨.hbm, 103, rfl⟩
abbrev main_v75 : Ref sig .tc := ⟨.hbm, 104, rfl⟩
abbrev main_v76 : Ref sig .tc := ⟨.hbm, 105, rfl⟩
abbrev main_cst_25 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_26 : Ref sig .tc := ⟨.hbm, 114, rfl⟩
abbrev main_v84 : Ref sig .tc := ⟨.hbm, 115, rfl⟩
abbrev main_v85 : Ref sig .tc := ⟨.hbm, 116, rfl⟩
abbrev main_cst_27 : Ref sig .tc := ⟨.hbm, 117, rfl⟩
abbrev main_v86 : Ref sig .tc := ⟨.hbm, 118, rfl⟩
abbrev main_v87 : Ref sig .tc := ⟨.hbm, 119, rfl⟩
abbrev main_cst_28 : Ref sig .tc := ⟨.hbm, 120, rfl⟩
abbrev main_v88 : Ref sig .tc := ⟨.hbm, 121, rfl⟩
abbrev main_v89 : Ref sig .tc := ⟨.hbm, 122, rfl⟩
abbrev main_cst_29 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_30 : Ref sig .tc := ⟨.hbm, 131, rfl⟩
abbrev main_v97 : Ref sig .tc := ⟨.hbm, 132, rfl⟩
abbrev main_v98 : Ref sig .tc := ⟨.hbm, 133, rfl⟩
abbrev main_cst_31 : Ref sig .tc := ⟨.hbm, 134, rfl⟩
abbrev main_v99 : Ref sig .tc := ⟨.hbm, 135, rfl⟩
abbrev main_v100 : Ref sig .tc := ⟨.hbm, 136, rfl⟩
abbrev main_cst_32 : Ref sig .tc := ⟨.hbm, 137, rfl⟩
abbrev main_v101 : Ref sig .tc := ⟨.hbm, 138, rfl⟩
abbrev main_v102 : Ref sig .tc := ⟨.hbm, 139, rfl⟩
abbrev main_cst_33 : Ref sig .tc := ⟨.hbm, 140, rfl⟩
abbrev main_v103 : Ref sig .tc := ⟨.hbm, 141, rfl⟩
abbrev main_v104 : Ref sig .tc := ⟨.hbm, 142, rfl⟩
abbrev main_cst_34 : Ref sig .tc := ⟨.hbm, 143, rfl⟩
abbrev main_v105 : Ref sig .tc := ⟨.hbm, 144, rfl⟩
abbrev main_v106 : Ref sig .tc := ⟨.hbm, 145, rfl⟩
abbrev main_cst_35 : Ref sig .tc := ⟨.hbm, 146, rfl⟩
abbrev main_v107 : Ref sig .tc := ⟨.hbm, 147, rfl⟩
abbrev main_v108 : Ref sig .tc := ⟨.hbm, 148, rfl⟩
abbrev main_cst_36 : Ref sig .tc := ⟨.hbm, 149, rfl⟩
abbrev main_v109 : Ref sig .tc := ⟨.hbm, 150, rfl⟩
abbrev main_v110 : Ref sig .tc := ⟨.hbm, 151, rfl⟩
abbrev main_cst_37 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_38 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_39 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_40 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_41 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_42 : Ref sig .tc := ⟨.hbm, 177, rfl⟩
abbrev main_v131 : Ref sig .tc := ⟨.hbm, 178, rfl⟩
abbrev main_v132 : Ref sig .tc := ⟨.hbm, 179, rfl⟩
abbrev main_cst_43 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_44 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_45 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c : Ref sig .tc := ⟨.hbm, 193, rfl⟩
abbrev main_c_46 : Ref sig .tc := ⟨.hbm, 194, rfl⟩
abbrev main_call0_v0 : Ref sig .tc := ⟨.hbm, 195, rfl⟩
abbrev main_call0_v1 : Ref sig .tc := ⟨.hbm, 196, rfl⟩
abbrev main_call0_v2 : Ref sig .tc := ⟨.hbm, 197, rfl⟩
abbrev main_call0_v3 : Ref sig .tc := ⟨.hbm, 198, rfl⟩
abbrev main_call0_v4 : Ref sig .tc := ⟨.hbm, 199, rfl⟩
abbrev main_v143 : Ref sig .tc := ⟨.hbm, 200, rfl⟩
abbrev main_v144 : Ref sig .tc := ⟨.hbm, 201, rfl⟩
abbrev main_c_47 : Ref sig .tc := ⟨.hbm, 202, rfl⟩
abbrev main_c_48 : Ref sig .tc := ⟨.hbm, 203, rfl⟩
abbrev main_call1_v0 : Ref sig .tc := ⟨.hbm, 204, rfl⟩
abbrev main_call1_v1 : Ref sig .tc := ⟨.hbm, 205, rfl⟩
abbrev main_call1_v2 : Ref sig .tc := ⟨.hbm, 206, rfl⟩
abbrev main_call1_v3 : Ref sig .tc := ⟨.hbm, 207, rfl⟩
abbrev main_call1_v4 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_cst_49 : Ref sig .tc := ⟨.hbm, 224, rfl⟩
abbrev main_v160 : Ref sig .tc := ⟨.hbm, 225, rfl⟩
abbrev main_v161 : Ref sig .tc := ⟨.hbm, 226, rfl⟩
abbrev main_cst_50 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_cst_51 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_cst_52 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_c_53 : Ref sig .tc := ⟨.hbm, 240, rfl⟩
abbrev main_c_54 : Ref sig .tc := ⟨.hbm, 241, rfl⟩
abbrev main_call2_v0 : Ref sig .tc := ⟨.hbm, 242, rfl⟩
abbrev main_call2_v1 : Ref sig .tc := ⟨.hbm, 243, rfl⟩
abbrev main_call2_v2 : Ref sig .tc := ⟨.hbm, 244, rfl⟩
abbrev main_call2_v3 : Ref sig .tc := ⟨.hbm, 245, rfl⟩
abbrev main_call2_v4 : Ref sig .tc := ⟨.hbm, 246, rfl⟩
abbrev main_v172 : Ref sig .tc := ⟨.hbm, 247, rfl⟩
abbrev main_v173 : Ref sig .tc := ⟨.hbm, 248, rfl⟩
abbrev main_c_55 : Ref sig .tc := ⟨.hbm, 249, rfl⟩
abbrev main_c_56 : Ref sig .tc := ⟨.hbm, 250, rfl⟩
abbrev main_call3_v0 : Ref sig .tc := ⟨.hbm, 251, rfl⟩
abbrev main_call3_v1 : Ref sig .tc := ⟨.hbm, 252, rfl⟩
abbrev main_call3_v2 : Ref sig .tc := ⟨.hbm, 253, rfl⟩
abbrev main_call3_v3 : Ref sig .tc := ⟨.hbm, 254, rfl⟩
abbrev main_call3_v4 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_cst_57 : Ref sig .tc := ⟨.hbm, 272, rfl⟩
abbrev main_v190 : Ref sig .tc := ⟨.hbm, 273, rfl⟩
abbrev main_v191 : Ref sig .tc := ⟨.hbm, 274, rfl⟩
abbrev main_cst_58 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_cst_59 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_cst_60 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_c_61 : Ref sig .tc := ⟨.hbm, 288, rfl⟩
abbrev main_c_62 : Ref sig .tc := ⟨.hbm, 289, rfl⟩
abbrev main_call4_v0 : Ref sig .tc := ⟨.hbm, 290, rfl⟩
abbrev main_call4_v1 : Ref sig .tc := ⟨.hbm, 291, rfl⟩
abbrev main_call4_v2 : Ref sig .tc := ⟨.hbm, 292, rfl⟩
abbrev main_call4_v3 : Ref sig .tc := ⟨.hbm, 293, rfl⟩
abbrev main_call4_v4 : Ref sig .tc := ⟨.hbm, 294, rfl⟩
abbrev main_v202 : Ref sig .tc := ⟨.hbm, 295, rfl⟩
abbrev main_v203 : Ref sig .tc := ⟨.hbm, 296, rfl⟩
abbrev main_c_63 : Ref sig .tc := ⟨.hbm, 297, rfl⟩
abbrev main_c_64 : Ref sig .tc := ⟨.hbm, 298, rfl⟩
abbrev main_call5_v0 : Ref sig .tc := ⟨.hbm, 299, rfl⟩
abbrev main_call5_v1 : Ref sig .tc := ⟨.hbm, 300, rfl⟩
abbrev main_call5_v2 : Ref sig .tc := ⟨.hbm, 301, rfl⟩
abbrev main_call5_v3 : Ref sig .tc := ⟨.hbm, 302, rfl⟩
abbrev main_call5_v4 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_v208 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_cst_65 : Ref sig .tc := ⟨.hbm, 320, rfl⟩
abbrev main_v220 : Ref sig .tc := ⟨.hbm, 321, rfl⟩
abbrev main_v221 : Ref sig .tc := ⟨.hbm, 322, rfl⟩
abbrev main_cst_66 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_cst_67 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_cst_68 : Ref sig .tc := ⟨.hbm, 331, rfl⟩
abbrev main_v228 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_c_69 : Ref sig .tc := ⟨.hbm, 336, rfl⟩
abbrev main_c_70 : Ref sig .tc := ⟨.hbm, 337, rfl⟩
abbrev main_call6_v0 : Ref sig .tc := ⟨.hbm, 338, rfl⟩
abbrev main_call6_v1 : Ref sig .tc := ⟨.hbm, 339, rfl⟩
abbrev main_call6_v2 : Ref sig .tc := ⟨.hbm, 340, rfl⟩
abbrev main_call6_v3 : Ref sig .tc := ⟨.hbm, 341, rfl⟩
abbrev main_call6_v4 : Ref sig .tc := ⟨.hbm, 342, rfl⟩
abbrev main_v232 : Ref sig .tc := ⟨.hbm, 343, rfl⟩
abbrev main_v233 : Ref sig .tc := ⟨.hbm, 344, rfl⟩
abbrev main_c_71 : Ref sig .tc := ⟨.hbm, 345, rfl⟩
abbrev main_c_72 : Ref sig .tc := ⟨.hbm, 346, rfl⟩
abbrev main_call7_v0 : Ref sig .tc := ⟨.hbm, 347, rfl⟩
abbrev main_call7_v1 : Ref sig .tc := ⟨.hbm, 348, rfl⟩
abbrev main_call7_v2 : Ref sig .tc := ⟨.hbm, 349, rfl⟩
abbrev main_call7_v3 : Ref sig .tc := ⟨.hbm, 350, rfl⟩
abbrev main_call7_v4 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_v241 : Ref sig .tc := ⟨.hbm, 359, rfl⟩
abbrev main_v242 : Ref sig .tc := ⟨.hbm, 360, rfl⟩
abbrev main_v243 : Ref sig .tc := ⟨.hbm, 361, rfl⟩
abbrev main_v244 : Ref sig .tc := ⟨.hbm, 362, rfl⟩
abbrev main_v245 : Ref sig .tc := ⟨.hbm, 363, rfl⟩
abbrev main_v246 : Ref sig .tc := ⟨.hbm, 364, rfl⟩
abbrev main_v247 : Ref sig .tc := ⟨.hbm, 365, rfl⟩
abbrev main_v248 : Ref sig .tc := ⟨.hbm, 366, rfl⟩
abbrev main_v249 : Ref sig .tc := ⟨.hbm, 367, rfl⟩
abbrev main_v250 : Ref sig .tc := ⟨.hbm, 368, rfl⟩
abbrev main_v251 : Ref sig .tc := ⟨.hbm, 369, rfl⟩
abbrev main_v252 : Ref sig .tc := ⟨.hbm, 370, rfl⟩
abbrev main_v253 : Ref sig .tc := ⟨.hbm, 371, rfl⟩
abbrev main_v254 : Ref sig .tc := ⟨.hbm, 372, rfl⟩
abbrev main_v255 : Ref sig .tc := ⟨.hbm, 373, rfl⟩
abbrev main_v256 : Ref sig .tc := ⟨.hbm, 374, rfl⟩
abbrev main_v257 : Ref sig .tc := ⟨.hbm, 375, rfl⟩
abbrev main_v258 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_cst_73 : Ref sig .tc := ⟨.hbm, 382, rfl⟩
abbrev main_v264 : Ref sig .tc := ⟨.hbm, 383, rfl⟩
abbrev main_v265 : Ref sig .tc := ⟨.hbm, 384, rfl⟩
abbrev main_cst_74 : Ref sig .tc := ⟨.hbm, 385, rfl⟩
abbrev main_v266 : Ref sig .tc := ⟨.hbm, 386, rfl⟩
abbrev main_v267 : Ref sig .tc := ⟨.hbm, 387, rfl⟩
abbrev main_v268 : Ref sig .tc := ⟨.hbm, 388, rfl⟩
abbrev main_v269 : Ref sig .tc := ⟨.hbm, 389, rfl⟩
abbrev main_v270 : Ref sig .tc := ⟨.hbm, 390, rfl⟩
abbrev main_v271 : Ref sig .tc := ⟨.hbm, 391, rfl⟩
abbrev main_v272 : Ref sig .tc := ⟨.hbm, 392, rfl⟩
abbrev main_cst_75 : Ref sig .tc := ⟨.hbm, 393, rfl⟩
abbrev main_v273 : Ref sig .tc := ⟨.hbm, 394, rfl⟩
abbrev main_v274 : Ref sig .tc := ⟨.hbm, 395, rfl⟩
abbrev main_cst_76 : Ref sig .tc := ⟨.hbm, 396, rfl⟩
abbrev main_v275 : Ref sig .tc := ⟨.hbm, 397, rfl⟩
abbrev main_v276 : Ref sig .tc := ⟨.hbm, 398, rfl⟩
abbrev main_cst_77 : Ref sig .tc := ⟨.hbm, 399, rfl⟩
abbrev main_v277 : Ref sig .tc := ⟨.hbm, 400, rfl⟩
abbrev main_v278 : Ref sig .tc := ⟨.hbm, 401, rfl⟩
abbrev main_cst_78 : Ref sig .tc := ⟨.hbm, 402, rfl⟩
abbrev main_v279 : Ref sig .tc := ⟨.hbm, 403, rfl⟩
abbrev main_v280 : Ref sig .tc := ⟨.hbm, 404, rfl⟩
abbrev main_v281 : Ref sig .tc := ⟨.hbm, 405, rfl⟩
abbrev main_v282 : Ref sig .tc := ⟨.hbm, 406, rfl⟩
abbrev main_v283 : Ref sig .tc := ⟨.hbm, 407, rfl⟩
abbrev main_v284 : Ref sig .tc := ⟨.hbm, 408, rfl⟩
abbrev main_v285 : Ref sig .tc := ⟨.hbm, 409, rfl⟩
abbrev main_cst_79 : Ref sig .tc := ⟨.hbm, 410, rfl⟩
abbrev main_v286 : Ref sig .tc := ⟨.hbm, 411, rfl⟩
abbrev main_v287 : Ref sig .tc := ⟨.hbm, 412, rfl⟩
abbrev main_cst_80 : Ref sig .tc := ⟨.hbm, 413, rfl⟩
abbrev main_v288 : Ref sig .tc := ⟨.hbm, 414, rfl⟩
abbrev main_v289 : Ref sig .tc := ⟨.hbm, 415, rfl⟩
abbrev main_cst_81 : Ref sig .tc := ⟨.hbm, 416, rfl⟩
abbrev main_v290 : Ref sig .tc := ⟨.hbm, 417, rfl⟩
abbrev main_v291 : Ref sig .tc := ⟨.hbm, 418, rfl⟩
abbrev main_cst_82 : Ref sig .tc := ⟨.hbm, 419, rfl⟩
abbrev main_v292 : Ref sig .tc := ⟨.hbm, 420, rfl⟩
abbrev main_v293 : Ref sig .tc := ⟨.hbm, 421, rfl⟩
abbrev main_cst_83 : Ref sig .tc := ⟨.hbm, 422, rfl⟩
abbrev main_v294 : Ref sig .tc := ⟨.hbm, 423, rfl⟩
abbrev main_v295 : Ref sig .tc := ⟨.hbm, 424, rfl⟩
abbrev main_cst_84 : Ref sig .tc := ⟨.hbm, 425, rfl⟩
abbrev main_v296 : Ref sig .tc := ⟨.hbm, 426, rfl⟩
abbrev main_v297 : Ref sig .tc := ⟨.hbm, 427, rfl⟩
abbrev main_cst_85 : Ref sig .tc := ⟨.hbm, 428, rfl⟩
abbrev main_v298 : Ref sig .tc := ⟨.hbm, 429, rfl⟩
abbrev main_v299 : Ref sig .tc := ⟨.hbm, 430, rfl⟩
abbrev main_cst_86 : Ref sig .tc := ⟨.hbm, 431, rfl⟩
abbrev main_v300 : Ref sig .tc := ⟨.hbm, 432, rfl⟩
abbrev main_v301 : Ref sig .tc := ⟨.hbm, 433, rfl⟩
abbrev main_v302 : Ref sig .tc := ⟨.hbm, 434, rfl⟩
abbrev main_cst_87 : Ref sig .tc := ⟨.hbm, 435, rfl⟩
abbrev main_v303 : Ref sig .tc := ⟨.hbm, 436, rfl⟩
abbrev main_v304 : Ref sig .tc := ⟨.hbm, 437, rfl⟩
abbrev main_v305 : Ref sig .tc := ⟨.hbm, 438, rfl⟩
abbrev main_cst_88 : Ref sig .tc := ⟨.hbm, 439, rfl⟩
abbrev main_v306 : Ref sig .tc := ⟨.hbm, 440, rfl⟩
abbrev main_v307 : Ref sig .tc := ⟨.hbm, 441, rfl⟩
abbrev main_v308 : Ref sig .tc := ⟨.hbm, 442, rfl⟩
abbrev main_cst_89 : Ref sig .tc := ⟨.hbm, 443, rfl⟩
abbrev main_v309 : Ref sig .tc := ⟨.hbm, 444, rfl⟩
abbrev main_v310 : Ref sig .tc := ⟨.hbm, 445, rfl⟩
abbrev main_v311 : Ref sig .tc := ⟨.hbm, 446, rfl⟩
abbrev main_cst_90 : Ref sig .tc := ⟨.hbm, 447, rfl⟩
abbrev main_v312 : Ref sig .tc := ⟨.hbm, 448, rfl⟩
abbrev main_v313 : Ref sig .tc := ⟨.hbm, 449, rfl⟩
abbrev main_v314 : Ref sig .tc := ⟨.hbm, 450, rfl⟩
abbrev main_v315 : Ref sig .tc := ⟨.hbm, 451, rfl⟩
abbrev main_v316 : Ref sig .tc := ⟨.hbm, 452, rfl⟩
abbrev main_v317 : Ref sig .tc := ⟨.hbm, 453, rfl⟩
abbrev main_v318 : Ref sig .tc := ⟨.hbm, 454, rfl⟩
abbrev main_v319 : Ref sig .tc := ⟨.hbm, 455, rfl⟩
abbrev main_cst_91 : Ref sig .tc := ⟨.hbm, 456, rfl⟩
abbrev main_v320 : Ref sig .tc := ⟨.hbm, 457, rfl⟩
abbrev main_v321 : Ref sig .tc := ⟨.hbm, 458, rfl⟩
abbrev main_cst_92 : Ref sig .tc := ⟨.hbm, 459, rfl⟩
abbrev main_v322 : Ref sig .tc := ⟨.hbm, 460, rfl⟩
abbrev main_v323 : Ref sig .tc := ⟨.hbm, 461, rfl⟩
abbrev main_v324 : Ref sig .tc := ⟨.hbm, 462, rfl⟩
abbrev main_cst_93 : Ref sig .tc := ⟨.hbm, 463, rfl⟩
abbrev main_v325 : Ref sig .tc := ⟨.hbm, 464, rfl⟩
abbrev main_v326 : Ref sig .tc := ⟨.hbm, 465, rfl⟩
abbrev main_v327 : Ref sig .tc := ⟨.hbm, 466, rfl⟩
abbrev main_cst_94 : Ref sig .tc := ⟨.hbm, 467, rfl⟩
abbrev main_v328 : Ref sig .tc := ⟨.hbm, 468, rfl⟩
abbrev main_v329 : Ref sig .tc := ⟨.hbm, 469, rfl⟩
abbrev main_v330 : Ref sig .tc := ⟨.hbm, 470, rfl⟩
abbrev main_v331 : Ref sig .tc := ⟨.hbm, 471, rfl⟩
abbrev main_c_95 : Ref sig .tc := ⟨.hbm, 472, rfl⟩
abbrev main_c_96 : Ref sig .tc := ⟨.hbm, 473, rfl⟩
abbrev main_call8_v0 : Ref sig .tc := ⟨.hbm, 474, rfl⟩
abbrev main_call8_v1 : Ref sig .tc := ⟨.hbm, 475, rfl⟩
abbrev main_call8_v2 : Ref sig .tc := ⟨.hbm, 476, rfl⟩
abbrev main_call8_v3 : Ref sig .tc := ⟨.hbm, 477, rfl⟩
abbrev main_call8_v4 : Ref sig .tc := ⟨.hbm, 478, rfl⟩
abbrev main_v332 : Ref sig .tc := ⟨.hbm, 479, rfl⟩
abbrev main_v333 : Ref sig .tc := ⟨.hbm, 480, rfl⟩
abbrev main_c_97 : Ref sig .tc := ⟨.hbm, 481, rfl⟩
abbrev main_c_98 : Ref sig .tc := ⟨.hbm, 482, rfl⟩
abbrev main_call9_v0 : Ref sig .tc := ⟨.hbm, 483, rfl⟩
abbrev main_call9_v1 : Ref sig .tc := ⟨.hbm, 484, rfl⟩
abbrev main_call9_v2 : Ref sig .tc := ⟨.hbm, 485, rfl⟩
abbrev main_call9_v3 : Ref sig .tc := ⟨.hbm, 486, rfl⟩
abbrev main_call9_v4 : Ref sig .tc := ⟨.hbm, 487, rfl⟩
abbrev main_v334 : Ref sig .tc := ⟨.hbm, 488, rfl⟩
abbrev main_v335 : Ref sig .tc := ⟨.hbm, 489, rfl⟩
abbrev main_v336 : Ref sig .tc := ⟨.hbm, 490, rfl⟩
abbrev main_v337 : Ref sig .tc := ⟨.hbm, 491, rfl⟩
abbrev main_v338 : Ref sig .tc := ⟨.hbm, 492, rfl⟩
abbrev main_v339 : Ref sig .tc := ⟨.hbm, 493, rfl⟩
abbrev main_v340 : Ref sig .tc := ⟨.hbm, 494, rfl⟩
abbrev main_v341 : Ref sig .tc := ⟨.hbm, 495, rfl⟩
abbrev main_v342 : Ref sig .tc := ⟨.hbm, 496, rfl⟩
abbrev main_v343 : Ref sig .tc := ⟨.hbm, 497, rfl⟩
abbrev main_v344 : Ref sig .tc := ⟨.hbm, 498, rfl⟩
abbrev main_v345 : Ref sig .tc := ⟨.hbm, 499, rfl⟩
abbrev main_v346 : Ref sig .tc := ⟨.hbm, 500, rfl⟩
abbrev main_v347 : Ref sig .tc := ⟨.hbm, 501, rfl⟩
abbrev main_v348 : Ref sig .tc := ⟨.hbm, 502, rfl⟩
abbrev main_cst_99 : Ref sig .tc := ⟨.hbm, 503, rfl⟩
abbrev main_v349 : Ref sig .tc := ⟨.hbm, 504, rfl⟩
abbrev main_v350 : Ref sig .tc := ⟨.hbm, 505, rfl⟩
abbrev main_cst_100 : Ref sig .tc := ⟨.hbm, 506, rfl⟩
abbrev main_v351 : Ref sig .tc := ⟨.hbm, 507, rfl⟩
abbrev main_v352 : Ref sig .tc := ⟨.hbm, 508, rfl⟩
abbrev main_v353 : Ref sig .tc := ⟨.hbm, 509, rfl⟩
abbrev main_cst_101 : Ref sig .tc := ⟨.hbm, 510, rfl⟩
abbrev main_v354 : Ref sig .tc := ⟨.hbm, 511, rfl⟩
abbrev main_v355 : Ref sig .tc := ⟨.hbm, 512, rfl⟩
abbrev main_v356 : Ref sig .tc := ⟨.hbm, 513, rfl⟩
abbrev main_cst_102 : Ref sig .tc := ⟨.hbm, 514, rfl⟩
abbrev main_v357 : Ref sig .tc := ⟨.hbm, 515, rfl⟩
abbrev main_v358 : Ref sig .tc := ⟨.hbm, 516, rfl⟩
abbrev main_v359 : Ref sig .tc := ⟨.hbm, 517, rfl⟩
abbrev main_v360 : Ref sig .tc := ⟨.hbm, 518, rfl⟩
abbrev main_c_103 : Ref sig .tc := ⟨.hbm, 519, rfl⟩
abbrev main_c_104 : Ref sig .tc := ⟨.hbm, 520, rfl⟩
abbrev main_call10_v0 : Ref sig .tc := ⟨.hbm, 521, rfl⟩
abbrev main_call10_v1 : Ref sig .tc := ⟨.hbm, 522, rfl⟩
abbrev main_call10_v2 : Ref sig .tc := ⟨.hbm, 523, rfl⟩
abbrev main_call10_v3 : Ref sig .tc := ⟨.hbm, 524, rfl⟩
abbrev main_call10_v4 : Ref sig .tc := ⟨.hbm, 525, rfl⟩
abbrev main_v361 : Ref sig .tc := ⟨.hbm, 526, rfl⟩
abbrev main_v362 : Ref sig .tc := ⟨.hbm, 527, rfl⟩
abbrev main_c_105 : Ref sig .tc := ⟨.hbm, 528, rfl⟩
abbrev main_c_106 : Ref sig .tc := ⟨.hbm, 529, rfl⟩
abbrev main_call11_v0 : Ref sig .tc := ⟨.hbm, 530, rfl⟩
abbrev main_call11_v1 : Ref sig .tc := ⟨.hbm, 531, rfl⟩
abbrev main_call11_v2 : Ref sig .tc := ⟨.hbm, 532, rfl⟩
abbrev main_call11_v3 : Ref sig .tc := ⟨.hbm, 533, rfl⟩
abbrev main_call11_v4 : Ref sig .tc := ⟨.hbm, 534, rfl⟩
abbrev main_v363 : Ref sig .tc := ⟨.hbm, 535, rfl⟩
abbrev main_v364 : Ref sig .tc := ⟨.hbm, 536, rfl⟩
abbrev main_v365 : Ref sig .tc := ⟨.hbm, 537, rfl⟩
abbrev main_v366 : Ref sig .tc := ⟨.hbm, 538, rfl⟩
abbrev main_v367 : Ref sig .tc := ⟨.hbm, 539, rfl⟩
abbrev main_v368 : Ref sig .tc := ⟨.hbm, 540, rfl⟩
abbrev main_v369 : Ref sig .tc := ⟨.hbm, 541, rfl⟩
abbrev main_v370 : Ref sig .tc := ⟨.hbm, 542, rfl⟩
abbrev main_v371 : Ref sig .tc := ⟨.hbm, 543, rfl⟩
abbrev main_v372 : Ref sig .tc := ⟨.hbm, 544, rfl⟩
abbrev main_v373 : Ref sig .tc := ⟨.hbm, 545, rfl⟩
abbrev main_v374 : Ref sig .tc := ⟨.hbm, 546, rfl⟩
abbrev main_v375 : Ref sig .tc := ⟨.hbm, 547, rfl⟩
abbrev main_v376 : Ref sig .tc := ⟨.hbm, 548, rfl⟩
abbrev main_v377 : Ref sig .tc := ⟨.hbm, 549, rfl⟩
abbrev main_v378 : Ref sig .tc := ⟨.hbm, 550, rfl⟩
abbrev main_cst_107 : Ref sig .tc := ⟨.hbm, 551, rfl⟩
abbrev main_v379 : Ref sig .tc := ⟨.hbm, 552, rfl⟩
abbrev main_v380 : Ref sig .tc := ⟨.hbm, 553, rfl⟩
abbrev main_cst_108 : Ref sig .tc := ⟨.hbm, 554, rfl⟩
abbrev main_v381 : Ref sig .tc := ⟨.hbm, 555, rfl⟩
abbrev main_v382 : Ref sig .tc := ⟨.hbm, 556, rfl⟩
abbrev main_v383 : Ref sig .tc := ⟨.hbm, 557, rfl⟩
abbrev main_cst_109 : Ref sig .tc := ⟨.hbm, 558, rfl⟩
abbrev main_v384 : Ref sig .tc := ⟨.hbm, 559, rfl⟩
abbrev main_v385 : Ref sig .tc := ⟨.hbm, 560, rfl⟩
abbrev main_v386 : Ref sig .tc := ⟨.hbm, 561, rfl⟩
abbrev main_cst_110 : Ref sig .tc := ⟨.hbm, 562, rfl⟩
abbrev main_v387 : Ref sig .tc := ⟨.hbm, 563, rfl⟩
abbrev main_v388 : Ref sig .tc := ⟨.hbm, 564, rfl⟩
abbrev main_v389 : Ref sig .tc := ⟨.hbm, 565, rfl⟩
abbrev main_v390 : Ref sig .tc := ⟨.hbm, 566, rfl⟩
abbrev main_c_111 : Ref sig .tc := ⟨.hbm, 567, rfl⟩
abbrev main_c_112 : Ref sig .tc := ⟨.hbm, 568, rfl⟩
abbrev main_call12_v0 : Ref sig .tc := ⟨.hbm, 569, rfl⟩
abbrev main_call12_v1 : Ref sig .tc := ⟨.hbm, 570, rfl⟩
abbrev main_call12_v2 : Ref sig .tc := ⟨.hbm, 571, rfl⟩
abbrev main_call12_v3 : Ref sig .tc := ⟨.hbm, 572, rfl⟩
abbrev main_call12_v4 : Ref sig .tc := ⟨.hbm, 573, rfl⟩
abbrev main_v391 : Ref sig .tc := ⟨.hbm, 574, rfl⟩
abbrev main_v392 : Ref sig .tc := ⟨.hbm, 575, rfl⟩
abbrev main_c_113 : Ref sig .tc := ⟨.hbm, 576, rfl⟩
abbrev main_c_114 : Ref sig .tc := ⟨.hbm, 577, rfl⟩
abbrev main_call13_v0 : Ref sig .tc := ⟨.hbm, 578, rfl⟩
abbrev main_call13_v1 : Ref sig .tc := ⟨.hbm, 579, rfl⟩
abbrev main_call13_v2 : Ref sig .tc := ⟨.hbm, 580, rfl⟩
abbrev main_call13_v3 : Ref sig .tc := ⟨.hbm, 581, rfl⟩
abbrev main_call13_v4 : Ref sig .tc := ⟨.hbm, 582, rfl⟩
abbrev main_v393 : Ref sig .tc := ⟨.hbm, 583, rfl⟩
abbrev main_v394 : Ref sig .tc := ⟨.hbm, 584, rfl⟩
abbrev main_v395 : Ref sig .tc := ⟨.hbm, 585, rfl⟩
abbrev main_v396 : Ref sig .tc := ⟨.hbm, 586, rfl⟩
abbrev main_v397 : Ref sig .tc := ⟨.hbm, 587, rfl⟩
abbrev main_v398 : Ref sig .tc := ⟨.hbm, 588, rfl⟩
abbrev main_v399 : Ref sig .tc := ⟨.hbm, 589, rfl⟩
abbrev main_v400 : Ref sig .tc := ⟨.hbm, 590, rfl⟩
abbrev main_v401 : Ref sig .tc := ⟨.hbm, 591, rfl⟩
abbrev main_v402 : Ref sig .tc := ⟨.hbm, 592, rfl⟩
abbrev main_v403 : Ref sig .tc := ⟨.hbm, 593, rfl⟩
abbrev main_v404 : Ref sig .tc := ⟨.hbm, 594, rfl⟩
abbrev main_v405 : Ref sig .tc := ⟨.hbm, 595, rfl⟩
abbrev main_v406 : Ref sig .tc := ⟨.hbm, 596, rfl⟩
abbrev main_v407 : Ref sig .tc := ⟨.hbm, 597, rfl⟩
abbrev main_v408 : Ref sig .tc := ⟨.hbm, 598, rfl⟩
abbrev main_cst_115 : Ref sig .tc := ⟨.hbm, 599, rfl⟩
abbrev main_v409 : Ref sig .tc := ⟨.hbm, 600, rfl⟩
abbrev main_v410 : Ref sig .tc := ⟨.hbm, 601, rfl⟩
abbrev main_cst_116 : Ref sig .tc := ⟨.hbm, 602, rfl⟩
abbrev main_v411 : Ref sig .tc := ⟨.hbm, 603, rfl⟩
abbrev main_v412 : Ref sig .tc := ⟨.hbm, 604, rfl⟩
abbrev main_v413 : Ref sig .tc := ⟨.hbm, 605, rfl⟩
abbrev main_cst_117 : Ref sig .tc := ⟨.hbm, 606, rfl⟩
abbrev main_v414 : Ref sig .tc := ⟨.hbm, 607, rfl⟩
abbrev main_v415 : Ref sig .tc := ⟨.hbm, 608, rfl⟩
abbrev main_v416 : Ref sig .tc := ⟨.hbm, 609, rfl⟩
abbrev main_cst_118 : Ref sig .tc := ⟨.hbm, 610, rfl⟩
abbrev main_v417 : Ref sig .tc := ⟨.hbm, 611, rfl⟩
abbrev main_v418 : Ref sig .tc := ⟨.hbm, 612, rfl⟩
abbrev main_v419 : Ref sig .tc := ⟨.hbm, 613, rfl⟩
abbrev main_v420 : Ref sig .tc := ⟨.hbm, 614, rfl⟩
abbrev main_c_119 : Ref sig .tc := ⟨.hbm, 615, rfl⟩
abbrev main_c_120 : Ref sig .tc := ⟨.hbm, 616, rfl⟩
abbrev main_call14_v0 : Ref sig .tc := ⟨.hbm, 617, rfl⟩
abbrev main_call14_v1 : Ref sig .tc := ⟨.hbm, 618, rfl⟩
abbrev main_call14_v2 : Ref sig .tc := ⟨.hbm, 619, rfl⟩
abbrev main_call14_v3 : Ref sig .tc := ⟨.hbm, 620, rfl⟩
abbrev main_call14_v4 : Ref sig .tc := ⟨.hbm, 621, rfl⟩
abbrev main_v421 : Ref sig .tc := ⟨.hbm, 622, rfl⟩
abbrev main_v422 : Ref sig .tc := ⟨.hbm, 623, rfl⟩
abbrev main_c_121 : Ref sig .tc := ⟨.hbm, 624, rfl⟩
abbrev main_c_122 : Ref sig .tc := ⟨.hbm, 625, rfl⟩
abbrev main_call15_v0 : Ref sig .tc := ⟨.hbm, 626, rfl⟩
abbrev main_call15_v1 : Ref sig .tc := ⟨.hbm, 627, rfl⟩
abbrev main_call15_v2 : Ref sig .tc := ⟨.hbm, 628, rfl⟩
abbrev main_call15_v3 : Ref sig .tc := ⟨.hbm, 629, rfl⟩
abbrev main_call15_v4 : Ref sig .tc := ⟨.hbm, 630, rfl⟩
abbrev main_v423 : Ref sig .tc := ⟨.hbm, 631, rfl⟩
abbrev main_v424 : Ref sig .tc := ⟨.hbm, 632, rfl⟩
abbrev main_v425 : Ref sig .tc := ⟨.hbm, 633, rfl⟩
abbrev main_v426 : Ref sig .tc := ⟨.hbm, 634, rfl⟩
abbrev main_v427 : Ref sig .tc := ⟨.hbm, 635, rfl⟩
abbrev main_v428 : Ref sig .tc := ⟨.hbm, 636, rfl⟩
abbrev main_v429 : Ref sig .tc := ⟨.hbm, 637, rfl⟩
abbrev main_v430 : Ref sig .tc := ⟨.hbm, 638, rfl⟩
abbrev main_v431 : Ref sig .tc := ⟨.hbm, 639, rfl⟩
abbrev main_v432 : Ref sig .tc := ⟨.hbm, 640, rfl⟩
abbrev main_v433 : Ref sig .tc := ⟨.hbm, 641, rfl⟩
abbrev main_v434 : Ref sig .tc := ⟨.hbm, 642, rfl⟩
abbrev main_v435 : Ref sig .tc := ⟨.hbm, 643, rfl⟩
abbrev main_v436 : Ref sig .tc := ⟨.hbm, 644, rfl⟩
abbrev main_v437 : Ref sig .tc := ⟨.hbm, 645, rfl⟩
abbrev main_v438 : Ref sig .tc := ⟨.hbm, 646, rfl⟩
abbrev main_v439 : Ref sig .tc := ⟨.hbm, 647, rfl⟩
abbrev main_v440 : Ref sig .tc := ⟨.hbm, 648, rfl⟩
abbrev main_v441 : Ref sig .tc := ⟨.hbm, 649, rfl⟩
abbrev main_v442 : Ref sig .tc := ⟨.hbm, 650, rfl⟩
abbrev main_v443 : Ref sig .tc := ⟨.hbm, 651, rfl⟩
abbrev main_v444 : Ref sig .tc := ⟨.hbm, 652, rfl⟩
abbrev main_v445 : Ref sig .tc := ⟨.hbm, 653, rfl⟩
abbrev main_v446 : Ref sig .tc := ⟨.hbm, 654, rfl⟩
abbrev main_v447 : Ref sig .tc := ⟨.hbm, 655, rfl⟩
abbrev main_v448 : Ref sig .tc := ⟨.hbm, 656, rfl⟩
abbrev main_v449 : Ref sig .tc := ⟨.hbm, 657, rfl⟩
abbrev main_v450 : Ref sig .tc := ⟨.hbm, 658, rfl⟩
abbrev main_v451 : Ref sig .tc := ⟨.hbm, 659, rfl⟩
abbrev main_v452 : Ref sig .tc := ⟨.hbm, 660, rfl⟩
abbrev main_cst_123 : Ref sig .tc := ⟨.hbm, 661, rfl⟩
abbrev main_v453 : Ref sig .tc := ⟨.hbm, 662, rfl⟩
abbrev main_v454 : Ref sig .tc := ⟨.hbm, 663, rfl⟩
abbrev main_cst_124 : Ref sig .tc := ⟨.hbm, 664, rfl⟩
abbrev main_v455 : Ref sig .tc := ⟨.hbm, 665, rfl⟩
abbrev main_v456 : Ref sig .tc := ⟨.hbm, 666, rfl⟩
abbrev main_v457 : Ref sig .tc := ⟨.hbm, 667, rfl⟩
abbrev main_v458 : Ref sig .tc := ⟨.hbm, 668, rfl⟩
abbrev main_v459 : Ref sig .tc := ⟨.hbm, 669, rfl⟩
abbrev main_v460 : Ref sig .tc := ⟨.hbm, 670, rfl⟩
abbrev main_v461 : Ref sig .tc := ⟨.hbm, 671, rfl⟩
abbrev main_cst_125 : Ref sig .tc := ⟨.hbm, 672, rfl⟩
abbrev main_v462 : Ref sig .tc := ⟨.hbm, 673, rfl⟩
abbrev main_v463 : Ref sig .tc := ⟨.hbm, 674, rfl⟩
abbrev main_cst_126 : Ref sig .tc := ⟨.hbm, 675, rfl⟩
abbrev main_v464 : Ref sig .tc := ⟨.hbm, 676, rfl⟩
abbrev main_v465 : Ref sig .tc := ⟨.hbm, 677, rfl⟩
abbrev main_cst_127 : Ref sig .tc := ⟨.hbm, 678, rfl⟩
abbrev main_v466 : Ref sig .tc := ⟨.hbm, 679, rfl⟩
abbrev main_v467 : Ref sig .tc := ⟨.hbm, 680, rfl⟩
abbrev main_cst_128 : Ref sig .tc := ⟨.hbm, 681, rfl⟩
abbrev main_v468 : Ref sig .tc := ⟨.hbm, 682, rfl⟩
abbrev main_v469 : Ref sig .tc := ⟨.hbm, 683, rfl⟩
abbrev main_v470 : Ref sig .tc := ⟨.hbm, 684, rfl⟩
abbrev main_v471 : Ref sig .tc := ⟨.hbm, 685, rfl⟩
abbrev main_v472 : Ref sig .tc := ⟨.hbm, 686, rfl⟩
abbrev main_v473 : Ref sig .tc := ⟨.hbm, 687, rfl⟩
abbrev main_v474 : Ref sig .tc := ⟨.hbm, 688, rfl⟩
abbrev main_cst_129 : Ref sig .tc := ⟨.hbm, 689, rfl⟩
abbrev main_v475 : Ref sig .tc := ⟨.hbm, 690, rfl⟩
abbrev main_v476 : Ref sig .tc := ⟨.hbm, 691, rfl⟩
abbrev main_cst_130 : Ref sig .tc := ⟨.hbm, 692, rfl⟩
abbrev main_v477 : Ref sig .tc := ⟨.hbm, 693, rfl⟩
abbrev main_v478 : Ref sig .tc := ⟨.hbm, 694, rfl⟩
abbrev main_cst_131 : Ref sig .tc := ⟨.hbm, 695, rfl⟩
abbrev main_v479 : Ref sig .tc := ⟨.hbm, 696, rfl⟩
abbrev main_v480 : Ref sig .tc := ⟨.hbm, 697, rfl⟩
abbrev main_cst_132 : Ref sig .tc := ⟨.hbm, 698, rfl⟩
abbrev main_v481 : Ref sig .tc := ⟨.hbm, 699, rfl⟩
abbrev main_v482 : Ref sig .tc := ⟨.hbm, 700, rfl⟩
abbrev main_cst_133 : Ref sig .tc := ⟨.hbm, 701, rfl⟩
abbrev main_v483 : Ref sig .tc := ⟨.hbm, 702, rfl⟩
abbrev main_v484 : Ref sig .tc := ⟨.hbm, 703, rfl⟩
abbrev main_cst_134 : Ref sig .tc := ⟨.hbm, 704, rfl⟩
abbrev main_v485 : Ref sig .tc := ⟨.hbm, 705, rfl⟩
abbrev main_v486 : Ref sig .tc := ⟨.hbm, 706, rfl⟩
abbrev main_cst_135 : Ref sig .tc := ⟨.hbm, 707, rfl⟩
abbrev main_v487 : Ref sig .tc := ⟨.hbm, 708, rfl⟩
abbrev main_v488 : Ref sig .tc := ⟨.hbm, 709, rfl⟩
abbrev main_cst_136 : Ref sig .tc := ⟨.hbm, 710, rfl⟩
abbrev main_v489 : Ref sig .tc := ⟨.hbm, 711, rfl⟩
abbrev main_v490 : Ref sig .tc := ⟨.hbm, 712, rfl⟩
abbrev main_v491 : Ref sig .tc := ⟨.hbm, 713, rfl⟩
abbrev main_cst_137 : Ref sig .tc := ⟨.hbm, 714, rfl⟩
abbrev main_v492 : Ref sig .tc := ⟨.hbm, 715, rfl⟩
abbrev main_v493 : Ref sig .tc := ⟨.hbm, 716, rfl⟩
abbrev main_v494 : Ref sig .tc := ⟨.hbm, 717, rfl⟩
abbrev main_cst_138 : Ref sig .tc := ⟨.hbm, 718, rfl⟩
abbrev main_v495 : Ref sig .tc := ⟨.hbm, 719, rfl⟩
abbrev main_v496 : Ref sig .tc := ⟨.hbm, 720, rfl⟩
abbrev main_v497 : Ref sig .tc := ⟨.hbm, 721, rfl⟩
abbrev main_cst_139 : Ref sig .tc := ⟨.hbm, 722, rfl⟩
abbrev main_v498 : Ref sig .tc := ⟨.hbm, 723, rfl⟩
abbrev main_v499 : Ref sig .tc := ⟨.hbm, 724, rfl⟩
abbrev main_v500 : Ref sig .tc := ⟨.hbm, 725, rfl⟩
abbrev main_cst_140 : Ref sig .tc := ⟨.hbm, 726, rfl⟩
abbrev main_v501 : Ref sig .tc := ⟨.hbm, 727, rfl⟩
abbrev main_v502 : Ref sig .tc := ⟨.hbm, 728, rfl⟩
abbrev main_v503 : Ref sig .tc := ⟨.hbm, 729, rfl⟩
abbrev main_v504 : Ref sig .tc := ⟨.hbm, 730, rfl⟩
abbrev main_v505 : Ref sig .tc := ⟨.hbm, 731, rfl⟩
abbrev main_v506 : Ref sig .tc := ⟨.hbm, 732, rfl⟩
abbrev main_v507 : Ref sig .tc := ⟨.hbm, 733, rfl⟩
abbrev main_v508 : Ref sig .tc := ⟨.hbm, 734, rfl⟩
abbrev main_cst_141 : Ref sig .tc := ⟨.hbm, 735, rfl⟩
abbrev main_v509 : Ref sig .tc := ⟨.hbm, 736, rfl⟩
abbrev main_v510 : Ref sig .tc := ⟨.hbm, 737, rfl⟩
abbrev main_cst_142 : Ref sig .tc := ⟨.hbm, 738, rfl⟩
abbrev main_v511 : Ref sig .tc := ⟨.hbm, 739, rfl⟩
abbrev main_v512 : Ref sig .tc := ⟨.hbm, 740, rfl⟩
abbrev main_v513 : Ref sig .tc := ⟨.hbm, 741, rfl⟩
abbrev main_cst_143 : Ref sig .tc := ⟨.hbm, 742, rfl⟩
abbrev main_v514 : Ref sig .tc := ⟨.hbm, 743, rfl⟩
abbrev main_v515 : Ref sig .tc := ⟨.hbm, 744, rfl⟩
abbrev main_v516 : Ref sig .tc := ⟨.hbm, 745, rfl⟩
abbrev main_cst_144 : Ref sig .tc := ⟨.hbm, 746, rfl⟩
abbrev main_v517 : Ref sig .tc := ⟨.hbm, 747, rfl⟩
abbrev main_v518 : Ref sig .tc := ⟨.hbm, 748, rfl⟩
abbrev main_v519 : Ref sig .tc := ⟨.hbm, 749, rfl⟩
abbrev main_v520 : Ref sig .tc := ⟨.hbm, 750, rfl⟩
abbrev main_c_145 : Ref sig .tc := ⟨.hbm, 751, rfl⟩
abbrev main_c_146 : Ref sig .tc := ⟨.hbm, 752, rfl⟩
abbrev main_call16_v0 : Ref sig .tc := ⟨.hbm, 753, rfl⟩
abbrev main_call16_v1 : Ref sig .tc := ⟨.hbm, 754, rfl⟩
abbrev main_call16_v2 : Ref sig .tc := ⟨.hbm, 755, rfl⟩
abbrev main_call16_v3 : Ref sig .tc := ⟨.hbm, 756, rfl⟩
abbrev main_call16_v4 : Ref sig .tc := ⟨.hbm, 757, rfl⟩
abbrev main_v521 : Ref sig .tc := ⟨.hbm, 758, rfl⟩
abbrev main_v522 : Ref sig .tc := ⟨.hbm, 759, rfl⟩
abbrev main_c_147 : Ref sig .tc := ⟨.hbm, 760, rfl⟩
abbrev main_c_148 : Ref sig .tc := ⟨.hbm, 761, rfl⟩
abbrev main_call17_v0 : Ref sig .tc := ⟨.hbm, 762, rfl⟩
abbrev main_call17_v1 : Ref sig .tc := ⟨.hbm, 763, rfl⟩
abbrev main_call17_v2 : Ref sig .tc := ⟨.hbm, 764, rfl⟩
abbrev main_call17_v3 : Ref sig .tc := ⟨.hbm, 765, rfl⟩
abbrev main_call17_v4 : Ref sig .tc := ⟨.hbm, 766, rfl⟩
abbrev main_v523 : Ref sig .tc := ⟨.hbm, 767, rfl⟩
abbrev main_v524 : Ref sig .tc := ⟨.hbm, 768, rfl⟩
abbrev main_v525 : Ref sig .tc := ⟨.hbm, 769, rfl⟩
abbrev main_v526 : Ref sig .tc := ⟨.hbm, 770, rfl⟩
abbrev main_v527 : Ref sig .tc := ⟨.hbm, 771, rfl⟩
abbrev main_v528 : Ref sig .tc := ⟨.hbm, 772, rfl⟩
abbrev main_v529 : Ref sig .tc := ⟨.hbm, 773, rfl⟩
abbrev main_v530 : Ref sig .tc := ⟨.hbm, 774, rfl⟩
abbrev main_v531 : Ref sig .tc := ⟨.hbm, 775, rfl⟩
abbrev main_v532 : Ref sig .tc := ⟨.hbm, 776, rfl⟩
abbrev main_v533 : Ref sig .tc := ⟨.hbm, 777, rfl⟩
abbrev main_v534 : Ref sig .tc := ⟨.hbm, 778, rfl⟩
abbrev main_v535 : Ref sig .tc := ⟨.hbm, 779, rfl⟩
abbrev main_v536 : Ref sig .tc := ⟨.hbm, 780, rfl⟩
abbrev main_v537 : Ref sig .tc := ⟨.hbm, 781, rfl⟩
abbrev main_cst_149 : Ref sig .tc := ⟨.hbm, 782, rfl⟩
abbrev main_v538 : Ref sig .tc := ⟨.hbm, 783, rfl⟩
abbrev main_v539 : Ref sig .tc := ⟨.hbm, 784, rfl⟩
abbrev main_cst_150 : Ref sig .tc := ⟨.hbm, 785, rfl⟩
abbrev main_v540 : Ref sig .tc := ⟨.hbm, 786, rfl⟩
abbrev main_v541 : Ref sig .tc := ⟨.hbm, 787, rfl⟩
abbrev main_v542 : Ref sig .tc := ⟨.hbm, 788, rfl⟩
abbrev main_cst_151 : Ref sig .tc := ⟨.hbm, 789, rfl⟩
abbrev main_v543 : Ref sig .tc := ⟨.hbm, 790, rfl⟩
abbrev main_v544 : Ref sig .tc := ⟨.hbm, 791, rfl⟩
abbrev main_v545 : Ref sig .tc := ⟨.hbm, 792, rfl⟩
abbrev main_cst_152 : Ref sig .tc := ⟨.hbm, 793, rfl⟩
abbrev main_v546 : Ref sig .tc := ⟨.hbm, 794, rfl⟩
abbrev main_v547 : Ref sig .tc := ⟨.hbm, 795, rfl⟩
abbrev main_v548 : Ref sig .tc := ⟨.hbm, 796, rfl⟩
abbrev main_v549 : Ref sig .tc := ⟨.hbm, 797, rfl⟩
abbrev main_c_153 : Ref sig .tc := ⟨.hbm, 798, rfl⟩
abbrev main_c_154 : Ref sig .tc := ⟨.hbm, 799, rfl⟩
abbrev main_call18_v0 : Ref sig .tc := ⟨.hbm, 800, rfl⟩
abbrev main_call18_v1 : Ref sig .tc := ⟨.hbm, 801, rfl⟩
abbrev main_call18_v2 : Ref sig .tc := ⟨.hbm, 802, rfl⟩
abbrev main_call18_v3 : Ref sig .tc := ⟨.hbm, 803, rfl⟩
abbrev main_call18_v4 : Ref sig .tc := ⟨.hbm, 804, rfl⟩
abbrev main_v550 : Ref sig .tc := ⟨.hbm, 805, rfl⟩
abbrev main_v551 : Ref sig .tc := ⟨.hbm, 806, rfl⟩
abbrev main_c_155 : Ref sig .tc := ⟨.hbm, 807, rfl⟩
abbrev main_c_156 : Ref sig .tc := ⟨.hbm, 808, rfl⟩
abbrev main_call19_v0 : Ref sig .tc := ⟨.hbm, 809, rfl⟩
abbrev main_call19_v1 : Ref sig .tc := ⟨.hbm, 810, rfl⟩
abbrev main_call19_v2 : Ref sig .tc := ⟨.hbm, 811, rfl⟩
abbrev main_call19_v3 : Ref sig .tc := ⟨.hbm, 812, rfl⟩
abbrev main_call19_v4 : Ref sig .tc := ⟨.hbm, 813, rfl⟩
abbrev main_v552 : Ref sig .tc := ⟨.hbm, 814, rfl⟩
abbrev main_v553 : Ref sig .tc := ⟨.hbm, 815, rfl⟩
abbrev main_v554 : Ref sig .tc := ⟨.hbm, 816, rfl⟩
abbrev main_v555 : Ref sig .tc := ⟨.hbm, 817, rfl⟩
abbrev main_v556 : Ref sig .tc := ⟨.hbm, 818, rfl⟩
abbrev main_v557 : Ref sig .tc := ⟨.hbm, 819, rfl⟩
abbrev main_v558 : Ref sig .tc := ⟨.hbm, 820, rfl⟩
abbrev main_v559 : Ref sig .tc := ⟨.hbm, 821, rfl⟩
abbrev main_v560 : Ref sig .tc := ⟨.hbm, 822, rfl⟩
abbrev main_v561 : Ref sig .tc := ⟨.hbm, 823, rfl⟩
abbrev main_v562 : Ref sig .tc := ⟨.hbm, 824, rfl⟩
abbrev main_v563 : Ref sig .tc := ⟨.hbm, 825, rfl⟩
abbrev main_v564 : Ref sig .tc := ⟨.hbm, 826, rfl⟩
abbrev main_v565 : Ref sig .tc := ⟨.hbm, 827, rfl⟩
abbrev main_v566 : Ref sig .tc := ⟨.hbm, 828, rfl⟩
abbrev main_v567 : Ref sig .tc := ⟨.hbm, 829, rfl⟩
abbrev main_cst_157 : Ref sig .tc := ⟨.hbm, 830, rfl⟩
abbrev main_v568 : Ref sig .tc := ⟨.hbm, 831, rfl⟩
abbrev main_v569 : Ref sig .tc := ⟨.hbm, 832, rfl⟩
abbrev main_cst_158 : Ref sig .tc := ⟨.hbm, 833, rfl⟩
abbrev main_v570 : Ref sig .tc := ⟨.hbm, 834, rfl⟩
abbrev main_v571 : Ref sig .tc := ⟨.hbm, 835, rfl⟩
abbrev main_v572 : Ref sig .tc := ⟨.hbm, 836, rfl⟩
abbrev main_cst_159 : Ref sig .tc := ⟨.hbm, 837, rfl⟩
abbrev main_v573 : Ref sig .tc := ⟨.hbm, 838, rfl⟩
abbrev main_v574 : Ref sig .tc := ⟨.hbm, 839, rfl⟩
abbrev main_v575 : Ref sig .tc := ⟨.hbm, 840, rfl⟩
abbrev main_cst_160 : Ref sig .tc := ⟨.hbm, 841, rfl⟩
abbrev main_v576 : Ref sig .tc := ⟨.hbm, 842, rfl⟩
abbrev main_v577 : Ref sig .tc := ⟨.hbm, 843, rfl⟩
abbrev main_v578 : Ref sig .tc := ⟨.hbm, 844, rfl⟩
abbrev main_v579 : Ref sig .tc := ⟨.hbm, 845, rfl⟩
abbrev main_c_161 : Ref sig .tc := ⟨.hbm, 846, rfl⟩
abbrev main_c_162 : Ref sig .tc := ⟨.hbm, 847, rfl⟩
abbrev main_call20_v0 : Ref sig .tc := ⟨.hbm, 848, rfl⟩
abbrev main_call20_v1 : Ref sig .tc := ⟨.hbm, 849, rfl⟩
abbrev main_call20_v2 : Ref sig .tc := ⟨.hbm, 850, rfl⟩
abbrev main_call20_v3 : Ref sig .tc := ⟨.hbm, 851, rfl⟩
abbrev main_call20_v4 : Ref sig .tc := ⟨.hbm, 852, rfl⟩
abbrev main_v580 : Ref sig .tc := ⟨.hbm, 853, rfl⟩
abbrev main_v581 : Ref sig .tc := ⟨.hbm, 854, rfl⟩
abbrev main_c_163 : Ref sig .tc := ⟨.hbm, 855, rfl⟩
abbrev main_c_164 : Ref sig .tc := ⟨.hbm, 856, rfl⟩
abbrev main_call21_v0 : Ref sig .tc := ⟨.hbm, 857, rfl⟩
abbrev main_call21_v1 : Ref sig .tc := ⟨.hbm, 858, rfl⟩
abbrev main_call21_v2 : Ref sig .tc := ⟨.hbm, 859, rfl⟩
abbrev main_call21_v3 : Ref sig .tc := ⟨.hbm, 860, rfl⟩
abbrev main_call21_v4 : Ref sig .tc := ⟨.hbm, 861, rfl⟩
abbrev main_v582 : Ref sig .tc := ⟨.hbm, 862, rfl⟩
abbrev main_v583 : Ref sig .tc := ⟨.hbm, 863, rfl⟩
abbrev main_v584 : Ref sig .tc := ⟨.hbm, 864, rfl⟩
abbrev main_v585 : Ref sig .tc := ⟨.hbm, 865, rfl⟩
abbrev main_v586 : Ref sig .tc := ⟨.hbm, 866, rfl⟩
abbrev main_v587 : Ref sig .tc := ⟨.hbm, 867, rfl⟩
abbrev main_v588 : Ref sig .tc := ⟨.hbm, 868, rfl⟩
abbrev main_v589 : Ref sig .tc := ⟨.hbm, 869, rfl⟩
abbrev main_v590 : Ref sig .tc := ⟨.hbm, 870, rfl⟩
abbrev main_v591 : Ref sig .tc := ⟨.hbm, 871, rfl⟩
abbrev main_v592 : Ref sig .tc := ⟨.hbm, 872, rfl⟩
abbrev main_v593 : Ref sig .tc := ⟨.hbm, 873, rfl⟩
abbrev main_v594 : Ref sig .tc := ⟨.hbm, 874, rfl⟩
abbrev main_v595 : Ref sig .tc := ⟨.hbm, 875, rfl⟩
abbrev main_v596 : Ref sig .tc := ⟨.hbm, 876, rfl⟩
abbrev main_v597 : Ref sig .tc := ⟨.hbm, 877, rfl⟩
abbrev main_cst_165 : Ref sig .tc := ⟨.hbm, 878, rfl⟩
abbrev main_v598 : Ref sig .tc := ⟨.hbm, 879, rfl⟩
abbrev main_v599 : Ref sig .tc := ⟨.hbm, 880, rfl⟩
abbrev main_cst_166 : Ref sig .tc := ⟨.hbm, 881, rfl⟩
abbrev main_v600 : Ref sig .tc := ⟨.hbm, 882, rfl⟩
abbrev main_v601 : Ref sig .tc := ⟨.hbm, 883, rfl⟩
abbrev main_v602 : Ref sig .tc := ⟨.hbm, 884, rfl⟩
abbrev main_cst_167 : Ref sig .tc := ⟨.hbm, 885, rfl⟩
abbrev main_v603 : Ref sig .tc := ⟨.hbm, 886, rfl⟩
abbrev main_v604 : Ref sig .tc := ⟨.hbm, 887, rfl⟩
abbrev main_v605 : Ref sig .tc := ⟨.hbm, 888, rfl⟩
abbrev main_cst_168 : Ref sig .tc := ⟨.hbm, 889, rfl⟩
abbrev main_v606 : Ref sig .tc := ⟨.hbm, 890, rfl⟩
abbrev main_v607 : Ref sig .tc := ⟨.hbm, 891, rfl⟩
abbrev main_v608 : Ref sig .tc := ⟨.hbm, 892, rfl⟩
abbrev main_v609 : Ref sig .tc := ⟨.hbm, 893, rfl⟩
abbrev main_c_169 : Ref sig .tc := ⟨.hbm, 894, rfl⟩
abbrev main_c_170 : Ref sig .tc := ⟨.hbm, 895, rfl⟩
abbrev main_call22_v0 : Ref sig .tc := ⟨.hbm, 896, rfl⟩
abbrev main_call22_v1 : Ref sig .tc := ⟨.hbm, 897, rfl⟩
abbrev main_call22_v2 : Ref sig .tc := ⟨.hbm, 898, rfl⟩
abbrev main_call22_v3 : Ref sig .tc := ⟨.hbm, 899, rfl⟩
abbrev main_call22_v4 : Ref sig .tc := ⟨.hbm, 900, rfl⟩
abbrev main_v610 : Ref sig .tc := ⟨.hbm, 901, rfl⟩
abbrev main_v611 : Ref sig .tc := ⟨.hbm, 902, rfl⟩
abbrev main_c_171 : Ref sig .tc := ⟨.hbm, 903, rfl⟩
abbrev main_c_172 : Ref sig .tc := ⟨.hbm, 904, rfl⟩
abbrev main_call23_v0 : Ref sig .tc := ⟨.hbm, 905, rfl⟩
abbrev main_call23_v1 : Ref sig .tc := ⟨.hbm, 906, rfl⟩
abbrev main_call23_v2 : Ref sig .tc := ⟨.hbm, 907, rfl⟩
abbrev main_call23_v3 : Ref sig .tc := ⟨.hbm, 908, rfl⟩
abbrev main_call23_v4 : Ref sig .tc := ⟨.hbm, 909, rfl⟩
abbrev main_v612 : Ref sig .tc := ⟨.hbm, 910, rfl⟩
abbrev main_v613 : Ref sig .tc := ⟨.hbm, 911, rfl⟩
abbrev main_v614 : Ref sig .tc := ⟨.hbm, 912, rfl⟩
abbrev main_v615 : Ref sig .tc := ⟨.hbm, 913, rfl⟩
abbrev main_v616 : Ref sig .tc := ⟨.hbm, 914, rfl⟩
abbrev main_v617 : Ref sig .tc := ⟨.hbm, 915, rfl⟩
abbrev main_v618 : Ref sig .tc := ⟨.hbm, 916, rfl⟩
abbrev main_v619 : Ref sig .tc := ⟨.hbm, 917, rfl⟩
abbrev main_v620 : Ref sig .tc := ⟨.hbm, 918, rfl⟩
abbrev main_v621 : Ref sig .tc := ⟨.hbm, 919, rfl⟩
abbrev main_v622 : Ref sig .tc := ⟨.hbm, 920, rfl⟩
abbrev main_v623 : Ref sig .tc := ⟨.hbm, 921, rfl⟩
abbrev main_v624 : Ref sig .tc := ⟨.hbm, 922, rfl⟩
abbrev main_v625 : Ref sig .tc := ⟨.hbm, 923, rfl⟩
abbrev main_v626 : Ref sig .tc := ⟨.hbm, 924, rfl⟩
abbrev main_v627 : Ref sig .tc := ⟨.hbm, 925, rfl⟩
abbrev main_v628 : Ref sig .tc := ⟨.hbm, 926, rfl⟩
abbrev main_v629 : Ref sig .tc := ⟨.hbm, 927, rfl⟩
abbrev main_v630 : Ref sig .tc := ⟨.hbm, 928, rfl⟩
abbrev main_v631 : Ref sig .tc := ⟨.hbm, 929, rfl⟩
abbrev main_v632 : Ref sig .tc := ⟨.hbm, 930, rfl⟩
abbrev main_v633 : Ref sig .tc := ⟨.hbm, 931, rfl⟩
abbrev main_v634 : Ref sig .tc := ⟨.hbm, 932, rfl⟩
abbrev main_v635 : Ref sig .tc := ⟨.hbm, 933, rfl⟩
abbrev main_v636 : Ref sig .tc := ⟨.hbm, 934, rfl⟩
abbrev main_v637 : Ref sig .tc := ⟨.hbm, 935, rfl⟩
abbrev main_v638 : Ref sig .tc := ⟨.hbm, 936, rfl⟩
abbrev main_v639 : Ref sig .tc := ⟨.hbm, 937, rfl⟩
abbrev main_v640 : Ref sig .tc := ⟨.hbm, 938, rfl⟩
abbrev main_v641 : Ref sig .tc := ⟨.hbm, 939, rfl⟩
abbrev main_cst_173 : Ref sig .tc := ⟨.hbm, 940, rfl⟩
abbrev main_v642 : Ref sig .tc := ⟨.hbm, 941, rfl⟩
abbrev main_v643 : Ref sig .tc := ⟨.hbm, 942, rfl⟩
abbrev main_cst_174 : Ref sig .tc := ⟨.hbm, 943, rfl⟩
abbrev main_v644 : Ref sig .tc := ⟨.hbm, 944, rfl⟩
abbrev main_v645 : Ref sig .tc := ⟨.hbm, 945, rfl⟩
abbrev main_v646 : Ref sig .tc := ⟨.hbm, 946, rfl⟩
abbrev main_v647 : Ref sig .tc := ⟨.hbm, 947, rfl⟩
abbrev main_v648 : Ref sig .tc := ⟨.hbm, 948, rfl⟩
abbrev main_v649 : Ref sig .tc := ⟨.hbm, 949, rfl⟩
abbrev main_v650 : Ref sig .tc := ⟨.hbm, 950, rfl⟩
abbrev main_cst_175 : Ref sig .tc := ⟨.hbm, 951, rfl⟩
abbrev main_v651 : Ref sig .tc := ⟨.hbm, 952, rfl⟩
abbrev main_v652 : Ref sig .tc := ⟨.hbm, 953, rfl⟩
abbrev main_cst_176 : Ref sig .tc := ⟨.hbm, 954, rfl⟩
abbrev main_v653 : Ref sig .tc := ⟨.hbm, 955, rfl⟩
abbrev main_v654 : Ref sig .tc := ⟨.hbm, 956, rfl⟩
abbrev main_cst_177 : Ref sig .tc := ⟨.hbm, 957, rfl⟩
abbrev main_v655 : Ref sig .tc := ⟨.hbm, 958, rfl⟩
abbrev main_v656 : Ref sig .tc := ⟨.hbm, 959, rfl⟩
abbrev main_cst_178 : Ref sig .tc := ⟨.hbm, 960, rfl⟩
abbrev main_v657 : Ref sig .tc := ⟨.hbm, 961, rfl⟩
abbrev main_v658 : Ref sig .tc := ⟨.hbm, 962, rfl⟩
abbrev main_v659 : Ref sig .tc := ⟨.hbm, 963, rfl⟩
abbrev main_v660 : Ref sig .tc := ⟨.hbm, 964, rfl⟩
abbrev main_v661 : Ref sig .tc := ⟨.hbm, 965, rfl⟩
abbrev main_v662 : Ref sig .tc := ⟨.hbm, 966, rfl⟩
abbrev main_v663 : Ref sig .tc := ⟨.hbm, 967, rfl⟩
abbrev main_cst_179 : Ref sig .tc := ⟨.hbm, 968, rfl⟩
abbrev main_v664 : Ref sig .tc := ⟨.hbm, 969, rfl⟩
abbrev main_v665 : Ref sig .tc := ⟨.hbm, 970, rfl⟩
abbrev main_cst_180 : Ref sig .tc := ⟨.hbm, 971, rfl⟩
abbrev main_v666 : Ref sig .tc := ⟨.hbm, 972, rfl⟩
abbrev main_v667 : Ref sig .tc := ⟨.hbm, 973, rfl⟩
abbrev main_cst_181 : Ref sig .tc := ⟨.hbm, 974, rfl⟩
abbrev main_v668 : Ref sig .tc := ⟨.hbm, 975, rfl⟩
abbrev main_v669 : Ref sig .tc := ⟨.hbm, 976, rfl⟩
abbrev main_cst_182 : Ref sig .tc := ⟨.hbm, 977, rfl⟩
abbrev main_v670 : Ref sig .tc := ⟨.hbm, 978, rfl⟩
abbrev main_v671 : Ref sig .tc := ⟨.hbm, 979, rfl⟩
abbrev main_cst_183 : Ref sig .tc := ⟨.hbm, 980, rfl⟩
abbrev main_v672 : Ref sig .tc := ⟨.hbm, 981, rfl⟩
abbrev main_v673 : Ref sig .tc := ⟨.hbm, 982, rfl⟩
abbrev main_cst_184 : Ref sig .tc := ⟨.hbm, 983, rfl⟩
abbrev main_v674 : Ref sig .tc := ⟨.hbm, 984, rfl⟩
abbrev main_v675 : Ref sig .tc := ⟨.hbm, 985, rfl⟩
abbrev main_cst_185 : Ref sig .tc := ⟨.hbm, 986, rfl⟩
abbrev main_v676 : Ref sig .tc := ⟨.hbm, 987, rfl⟩
abbrev main_v677 : Ref sig .tc := ⟨.hbm, 988, rfl⟩
abbrev main_cst_186 : Ref sig .tc := ⟨.hbm, 989, rfl⟩
abbrev main_v678 : Ref sig .tc := ⟨.hbm, 990, rfl⟩
abbrev main_v679 : Ref sig .tc := ⟨.hbm, 991, rfl⟩
abbrev main_v680 : Ref sig .tc := ⟨.hbm, 992, rfl⟩
abbrev main_cst_187 : Ref sig .tc := ⟨.hbm, 993, rfl⟩
abbrev main_v681 : Ref sig .tc := ⟨.hbm, 994, rfl⟩
abbrev main_v682 : Ref sig .tc := ⟨.hbm, 995, rfl⟩
abbrev main_v683 : Ref sig .tc := ⟨.hbm, 996, rfl⟩
abbrev main_cst_188 : Ref sig .tc := ⟨.hbm, 997, rfl⟩
abbrev main_v684 : Ref sig .tc := ⟨.hbm, 998, rfl⟩
abbrev main_v685 : Ref sig .tc := ⟨.hbm, 999, rfl⟩
abbrev main_v686 : Ref sig .tc := ⟨.hbm, 1000, rfl⟩
abbrev main_cst_189 : Ref sig .tc := ⟨.hbm, 1001, rfl⟩
abbrev main_v687 : Ref sig .tc := ⟨.hbm, 1002, rfl⟩
abbrev main_v688 : Ref sig .tc := ⟨.hbm, 1003, rfl⟩
abbrev main_v689 : Ref sig .tc := ⟨.hbm, 1004, rfl⟩
abbrev main_cst_190 : Ref sig .tc := ⟨.hbm, 1005, rfl⟩
abbrev main_v690 : Ref sig .tc := ⟨.hbm, 1006, rfl⟩
abbrev main_v691 : Ref sig .tc := ⟨.hbm, 1007, rfl⟩
abbrev main_v692 : Ref sig .tc := ⟨.hbm, 1008, rfl⟩
abbrev main_v693 : Ref sig .tc := ⟨.hbm, 1009, rfl⟩
abbrev main_v694 : Ref sig .tc := ⟨.hbm, 1010, rfl⟩
abbrev main_v695 : Ref sig .tc := ⟨.hbm, 1011, rfl⟩
abbrev main_v696 : Ref sig .tc := ⟨.hbm, 1012, rfl⟩
abbrev main_v697 : Ref sig .tc := ⟨.hbm, 1013, rfl⟩
abbrev main_cst_191 : Ref sig .tc := ⟨.hbm, 1014, rfl⟩
abbrev main_v698 : Ref sig .tc := ⟨.hbm, 1015, rfl⟩
abbrev main_v699 : Ref sig .tc := ⟨.hbm, 1016, rfl⟩
abbrev main_cst_192 : Ref sig .tc := ⟨.hbm, 1017, rfl⟩
abbrev main_v700 : Ref sig .tc := ⟨.hbm, 1018, rfl⟩
abbrev main_v701 : Ref sig .tc := ⟨.hbm, 1019, rfl⟩
abbrev main_v702 : Ref sig .tc := ⟨.hbm, 1020, rfl⟩
abbrev main_cst_193 : Ref sig .tc := ⟨.hbm, 1021, rfl⟩
abbrev main_v703 : Ref sig .tc := ⟨.hbm, 1022, rfl⟩
abbrev main_v704 : Ref sig .tc := ⟨.hbm, 1023, rfl⟩
abbrev main_v705 : Ref sig .tc := ⟨.hbm, 1024, rfl⟩
abbrev main_cst_194 : Ref sig .tc := ⟨.hbm, 1025, rfl⟩
abbrev main_v706 : Ref sig .tc := ⟨.hbm, 1026, rfl⟩
abbrev main_v707 : Ref sig .tc := ⟨.hbm, 1027, rfl⟩
abbrev main_v708 : Ref sig .tc := ⟨.hbm, 1028, rfl⟩
abbrev main_v709 : Ref sig .tc := ⟨.hbm, 1029, rfl⟩
abbrev main_c_195 : Ref sig .tc := ⟨.hbm, 1030, rfl⟩
abbrev main_c_196 : Ref sig .tc := ⟨.hbm, 1031, rfl⟩
abbrev main_call24_v0 : Ref sig .tc := ⟨.hbm, 1032, rfl⟩
abbrev main_call24_v1 : Ref sig .tc := ⟨.hbm, 1033, rfl⟩
abbrev main_call24_v2 : Ref sig .tc := ⟨.hbm, 1034, rfl⟩
abbrev main_call24_v3 : Ref sig .tc := ⟨.hbm, 1035, rfl⟩
abbrev main_call24_v4 : Ref sig .tc := ⟨.hbm, 1036, rfl⟩
abbrev main_v710 : Ref sig .tc := ⟨.hbm, 1037, rfl⟩
abbrev main_v711 : Ref sig .tc := ⟨.hbm, 1038, rfl⟩
abbrev main_c_197 : Ref sig .tc := ⟨.hbm, 1039, rfl⟩
abbrev main_c_198 : Ref sig .tc := ⟨.hbm, 1040, rfl⟩
abbrev main_call25_v0 : Ref sig .tc := ⟨.hbm, 1041, rfl⟩
abbrev main_call25_v1 : Ref sig .tc := ⟨.hbm, 1042, rfl⟩
abbrev main_call25_v2 : Ref sig .tc := ⟨.hbm, 1043, rfl⟩
abbrev main_call25_v3 : Ref sig .tc := ⟨.hbm, 1044, rfl⟩
abbrev main_call25_v4 : Ref sig .tc := ⟨.hbm, 1045, rfl⟩
abbrev main_v712 : Ref sig .tc := ⟨.hbm, 1046, rfl⟩
abbrev main_v713 : Ref sig .tc := ⟨.hbm, 1047, rfl⟩
abbrev main_v714 : Ref sig .tc := ⟨.hbm, 1048, rfl⟩
abbrev main_v715 : Ref sig .tc := ⟨.hbm, 1049, rfl⟩
abbrev main_v716 : Ref sig .tc := ⟨.hbm, 1050, rfl⟩
abbrev main_v717 : Ref sig .tc := ⟨.hbm, 1051, rfl⟩
abbrev main_v718 : Ref sig .tc := ⟨.hbm, 1052, rfl⟩
abbrev main_v719 : Ref sig .tc := ⟨.hbm, 1053, rfl⟩
abbrev main_v720 : Ref sig .tc := ⟨.hbm, 1054, rfl⟩
abbrev main_v721 : Ref sig .tc := ⟨.hbm, 1055, rfl⟩
abbrev main_v722 : Ref sig .tc := ⟨.hbm, 1056, rfl⟩
abbrev main_v723 : Ref sig .tc := ⟨.hbm, 1057, rfl⟩
abbrev main_v724 : Ref sig .tc := ⟨.hbm, 1058, rfl⟩
abbrev main_v725 : Ref sig .tc := ⟨.hbm, 1059, rfl⟩
abbrev main_v726 : Ref sig .tc := ⟨.hbm, 1060, rfl⟩
abbrev main_cst_199 : Ref sig .tc := ⟨.hbm, 1061, rfl⟩
abbrev main_v727 : Ref sig .tc := ⟨.hbm, 1062, rfl⟩
abbrev main_v728 : Ref sig .tc := ⟨.hbm, 1063, rfl⟩
abbrev main_cst_200 : Ref sig .tc := ⟨.hbm, 1064, rfl⟩
abbrev main_v729 : Ref sig .tc := ⟨.hbm, 1065, rfl⟩
abbrev main_v730 : Ref sig .tc := ⟨.hbm, 1066, rfl⟩
abbrev main_v731 : Ref sig .tc := ⟨.hbm, 1067, rfl⟩
abbrev main_cst_201 : Ref sig .tc := ⟨.hbm, 1068, rfl⟩
abbrev main_v732 : Ref sig .tc := ⟨.hbm, 1069, rfl⟩
abbrev main_v733 : Ref sig .tc := ⟨.hbm, 1070, rfl⟩
abbrev main_v734 : Ref sig .tc := ⟨.hbm, 1071, rfl⟩
abbrev main_cst_202 : Ref sig .tc := ⟨.hbm, 1072, rfl⟩
abbrev main_v735 : Ref sig .tc := ⟨.hbm, 1073, rfl⟩
abbrev main_v736 : Ref sig .tc := ⟨.hbm, 1074, rfl⟩
abbrev main_v737 : Ref sig .tc := ⟨.hbm, 1075, rfl⟩
abbrev main_v738 : Ref sig .tc := ⟨.hbm, 1076, rfl⟩
abbrev main_c_203 : Ref sig .tc := ⟨.hbm, 1077, rfl⟩
abbrev main_c_204 : Ref sig .tc := ⟨.hbm, 1078, rfl⟩
abbrev main_call26_v0 : Ref sig .tc := ⟨.hbm, 1079, rfl⟩
abbrev main_call26_v1 : Ref sig .tc := ⟨.hbm, 1080, rfl⟩
abbrev main_call26_v2 : Ref sig .tc := ⟨.hbm, 1081, rfl⟩
abbrev main_call26_v3 : Ref sig .tc := ⟨.hbm, 1082, rfl⟩
abbrev main_call26_v4 : Ref sig .tc := ⟨.hbm, 1083, rfl⟩
abbrev main_v739 : Ref sig .tc := ⟨.hbm, 1084, rfl⟩
abbrev main_v740 : Ref sig .tc := ⟨.hbm, 1085, rfl⟩
abbrev main_c_205 : Ref sig .tc := ⟨.hbm, 1086, rfl⟩
abbrev main_c_206 : Ref sig .tc := ⟨.hbm, 1087, rfl⟩
abbrev main_call27_v0 : Ref sig .tc := ⟨.hbm, 1088, rfl⟩
abbrev main_call27_v1 : Ref sig .tc := ⟨.hbm, 1089, rfl⟩
abbrev main_call27_v2 : Ref sig .tc := ⟨.hbm, 1090, rfl⟩
abbrev main_call27_v3 : Ref sig .tc := ⟨.hbm, 1091, rfl⟩
abbrev main_call27_v4 : Ref sig .tc := ⟨.hbm, 1092, rfl⟩
abbrev main_v741 : Ref sig .tc := ⟨.hbm, 1093, rfl⟩
abbrev main_v742 : Ref sig .tc := ⟨.hbm, 1094, rfl⟩
abbrev main_v743 : Ref sig .tc := ⟨.hbm, 1095, rfl⟩
abbrev main_v744 : Ref sig .tc := ⟨.hbm, 1096, rfl⟩
abbrev main_v745 : Ref sig .tc := ⟨.hbm, 1097, rfl⟩
abbrev main_v746 : Ref sig .tc := ⟨.hbm, 1098, rfl⟩
abbrev main_v747 : Ref sig .tc := ⟨.hbm, 1099, rfl⟩
abbrev main_v748 : Ref sig .tc := ⟨.hbm, 1100, rfl⟩
abbrev main_v749 : Ref sig .tc := ⟨.hbm, 1101, rfl⟩
abbrev main_v750 : Ref sig .tc := ⟨.hbm, 1102, rfl⟩
abbrev main_v751 : Ref sig .tc := ⟨.hbm, 1103, rfl⟩
abbrev main_v752 : Ref sig .tc := ⟨.hbm, 1104, rfl⟩
abbrev main_v753 : Ref sig .tc := ⟨.hbm, 1105, rfl⟩
abbrev main_v754 : Ref sig .tc := ⟨.hbm, 1106, rfl⟩
abbrev main_v755 : Ref sig .tc := ⟨.hbm, 1107, rfl⟩
abbrev main_v756 : Ref sig .tc := ⟨.hbm, 1108, rfl⟩
abbrev main_cst_207 : Ref sig .tc := ⟨.hbm, 1109, rfl⟩
abbrev main_v757 : Ref sig .tc := ⟨.hbm, 1110, rfl⟩
abbrev main_v758 : Ref sig .tc := ⟨.hbm, 1111, rfl⟩
abbrev main_cst_208 : Ref sig .tc := ⟨.hbm, 1112, rfl⟩
abbrev main_v759 : Ref sig .tc := ⟨.hbm, 1113, rfl⟩
abbrev main_v760 : Ref sig .tc := ⟨.hbm, 1114, rfl⟩
abbrev main_v761 : Ref sig .tc := ⟨.hbm, 1115, rfl⟩
abbrev main_cst_209 : Ref sig .tc := ⟨.hbm, 1116, rfl⟩
abbrev main_v762 : Ref sig .tc := ⟨.hbm, 1117, rfl⟩
abbrev main_v763 : Ref sig .tc := ⟨.hbm, 1118, rfl⟩
abbrev main_v764 : Ref sig .tc := ⟨.hbm, 1119, rfl⟩
abbrev main_cst_210 : Ref sig .tc := ⟨.hbm, 1120, rfl⟩
abbrev main_v765 : Ref sig .tc := ⟨.hbm, 1121, rfl⟩
abbrev main_v766 : Ref sig .tc := ⟨.hbm, 1122, rfl⟩
abbrev main_v767 : Ref sig .tc := ⟨.hbm, 1123, rfl⟩
abbrev main_v768 : Ref sig .tc := ⟨.hbm, 1124, rfl⟩
abbrev main_c_211 : Ref sig .tc := ⟨.hbm, 1125, rfl⟩
abbrev main_c_212 : Ref sig .tc := ⟨.hbm, 1126, rfl⟩
abbrev main_call28_v0 : Ref sig .tc := ⟨.hbm, 1127, rfl⟩
abbrev main_call28_v1 : Ref sig .tc := ⟨.hbm, 1128, rfl⟩
abbrev main_call28_v2 : Ref sig .tc := ⟨.hbm, 1129, rfl⟩
abbrev main_call28_v3 : Ref sig .tc := ⟨.hbm, 1130, rfl⟩
abbrev main_call28_v4 : Ref sig .tc := ⟨.hbm, 1131, rfl⟩
abbrev main_v769 : Ref sig .tc := ⟨.hbm, 1132, rfl⟩
abbrev main_v770 : Ref sig .tc := ⟨.hbm, 1133, rfl⟩
abbrev main_c_213 : Ref sig .tc := ⟨.hbm, 1134, rfl⟩
abbrev main_c_214 : Ref sig .tc := ⟨.hbm, 1135, rfl⟩
abbrev main_call29_v0 : Ref sig .tc := ⟨.hbm, 1136, rfl⟩
abbrev main_call29_v1 : Ref sig .tc := ⟨.hbm, 1137, rfl⟩
abbrev main_call29_v2 : Ref sig .tc := ⟨.hbm, 1138, rfl⟩
abbrev main_call29_v3 : Ref sig .tc := ⟨.hbm, 1139, rfl⟩
abbrev main_call29_v4 : Ref sig .tc := ⟨.hbm, 1140, rfl⟩
abbrev main_v771 : Ref sig .tc := ⟨.hbm, 1141, rfl⟩
abbrev main_v772 : Ref sig .tc := ⟨.hbm, 1142, rfl⟩
abbrev main_v773 : Ref sig .tc := ⟨.hbm, 1143, rfl⟩
abbrev main_v774 : Ref sig .tc := ⟨.hbm, 1144, rfl⟩
abbrev main_v775 : Ref sig .tc := ⟨.hbm, 1145, rfl⟩
abbrev main_v776 : Ref sig .tc := ⟨.hbm, 1146, rfl⟩
abbrev main_v777 : Ref sig .tc := ⟨.hbm, 1147, rfl⟩
abbrev main_v778 : Ref sig .tc := ⟨.hbm, 1148, rfl⟩
abbrev main_v779 : Ref sig .tc := ⟨.hbm, 1149, rfl⟩
abbrev main_v780 : Ref sig .tc := ⟨.hbm, 1150, rfl⟩
abbrev main_v781 : Ref sig .tc := ⟨.hbm, 1151, rfl⟩
abbrev main_v782 : Ref sig .tc := ⟨.hbm, 1152, rfl⟩
abbrev main_v783 : Ref sig .tc := ⟨.hbm, 1153, rfl⟩
abbrev main_v784 : Ref sig .tc := ⟨.hbm, 1154, rfl⟩
abbrev main_v785 : Ref sig .tc := ⟨.hbm, 1155, rfl⟩
abbrev main_v786 : Ref sig .tc := ⟨.hbm, 1156, rfl⟩
abbrev main_cst_215 : Ref sig .tc := ⟨.hbm, 1157, rfl⟩
abbrev main_v787 : Ref sig .tc := ⟨.hbm, 1158, rfl⟩
abbrev main_v788 : Ref sig .tc := ⟨.hbm, 1159, rfl⟩
abbrev main_cst_216 : Ref sig .tc := ⟨.hbm, 1160, rfl⟩
abbrev main_v789 : Ref sig .tc := ⟨.hbm, 1161, rfl⟩
abbrev main_v790 : Ref sig .tc := ⟨.hbm, 1162, rfl⟩
abbrev main_v791 : Ref sig .tc := ⟨.hbm, 1163, rfl⟩
abbrev main_cst_217 : Ref sig .tc := ⟨.hbm, 1164, rfl⟩
abbrev main_v792 : Ref sig .tc := ⟨.hbm, 1165, rfl⟩
abbrev main_v793 : Ref sig .tc := ⟨.hbm, 1166, rfl⟩
abbrev main_v794 : Ref sig .tc := ⟨.hbm, 1167, rfl⟩
abbrev main_cst_218 : Ref sig .tc := ⟨.hbm, 1168, rfl⟩
abbrev main_v795 : Ref sig .tc := ⟨.hbm, 1169, rfl⟩
abbrev main_v796 : Ref sig .tc := ⟨.hbm, 1170, rfl⟩
abbrev main_v797 : Ref sig .tc := ⟨.hbm, 1171, rfl⟩
abbrev main_v798 : Ref sig .tc := ⟨.hbm, 1172, rfl⟩
abbrev main_c_219 : Ref sig .tc := ⟨.hbm, 1173, rfl⟩
abbrev main_c_220 : Ref sig .tc := ⟨.hbm, 1174, rfl⟩
abbrev main_call30_v0 : Ref sig .tc := ⟨.hbm, 1175, rfl⟩
abbrev main_call30_v1 : Ref sig .tc := ⟨.hbm, 1176, rfl⟩
abbrev main_call30_v2 : Ref sig .tc := ⟨.hbm, 1177, rfl⟩
abbrev main_call30_v3 : Ref sig .tc := ⟨.hbm, 1178, rfl⟩
abbrev main_call30_v4 : Ref sig .tc := ⟨.hbm, 1179, rfl⟩
abbrev main_v799 : Ref sig .tc := ⟨.hbm, 1180, rfl⟩
abbrev main_v800 : Ref sig .tc := ⟨.hbm, 1181, rfl⟩
abbrev main_c_221 : Ref sig .tc := ⟨.hbm, 1182, rfl⟩
abbrev main_c_222 : Ref sig .tc := ⟨.hbm, 1183, rfl⟩
abbrev main_call31_v0 : Ref sig .tc := ⟨.hbm, 1184, rfl⟩
abbrev main_call31_v1 : Ref sig .tc := ⟨.hbm, 1185, rfl⟩
abbrev main_call31_v2 : Ref sig .tc := ⟨.hbm, 1186, rfl⟩
abbrev main_call31_v3 : Ref sig .tc := ⟨.hbm, 1187, rfl⟩
abbrev main_call31_v4 : Ref sig .tc := ⟨.hbm, 1188, rfl⟩
abbrev main_v801 : Ref sig .tc := ⟨.hbm, 1189, rfl⟩
abbrev main_v802 : Ref sig .tc := ⟨.hbm, 1190, rfl⟩
abbrev main_v803 : Ref sig .tc := ⟨.hbm, 1191, rfl⟩
abbrev main_v804 : Ref sig .tc := ⟨.hbm, 1192, rfl⟩
abbrev main_v805 : Ref sig .tc := ⟨.hbm, 1193, rfl⟩
abbrev main_v806 : Ref sig .tc := ⟨.hbm, 1194, rfl⟩
abbrev main_v807 : Ref sig .tc := ⟨.hbm, 1195, rfl⟩
abbrev main_v808 : Ref sig .tc := ⟨.hbm, 1196, rfl⟩
abbrev main_v809 : Ref sig .tc := ⟨.hbm, 1197, rfl⟩
abbrev main_v810 : Ref sig .tc := ⟨.hbm, 1198, rfl⟩
abbrev main_v811 : Ref sig .tc := ⟨.hbm, 1199, rfl⟩
abbrev main_v812 : Ref sig .tc := ⟨.hbm, 1200, rfl⟩
abbrev main_v813 : Ref sig .tc := ⟨.hbm, 1201, rfl⟩
abbrev main_v814 : Ref sig .tc := ⟨.hbm, 1202, rfl⟩
abbrev main_v815 : Ref sig .tc := ⟨.hbm, 1203, rfl⟩
abbrev main_v816 : Ref sig .tc := ⟨.hbm, 1204, rfl⟩
abbrev main_v817 : Ref sig .tc := ⟨.hbm, 1205, rfl⟩
abbrev main_v818 : Ref sig .tc := ⟨.hbm, 1206, rfl⟩
abbrev main_v819 : Ref sig .tc := ⟨.hbm, 1207, rfl⟩
abbrev main_v820 : Ref sig .tc := ⟨.hbm, 1208, rfl⟩
abbrev main_v821 : Ref sig .tc := ⟨.hbm, 1209, rfl⟩
abbrev main_v822 : Ref sig .tc := ⟨.hbm, 1210, rfl⟩
abbrev main_v823 : Ref sig .tc := ⟨.hbm, 1211, rfl⟩
abbrev main_v824 : Ref sig .tc := ⟨.hbm, 1212, rfl⟩
abbrev main_v825 : Ref sig .tc := ⟨.hbm, 1213, rfl⟩
abbrev main_v826 : Ref sig .tc := ⟨.hbm, 1214, rfl⟩
abbrev main_v827 : Ref sig .tc := ⟨.hbm, 1215, rfl⟩
abbrev main_v828 : Ref sig .tc := ⟨.hbm, 1216, rfl⟩

abbrev nD : Nat := 1
abbrev τ : Topo := Topo.v7x

variable {F : FTy → Type} [FloatOps F]
-- ==== Proof.Blocks.lean ====
module

public import Idealize.ShloMosaic.Lib.Pointwise
public import Idealize.ShloMosaic.Lib.Pointwise.IndexVar

/-! # The building blocks of one level of the lookup

The kernel body repeats the same vector program for every batch and every pyramid level, at other sizes. Here each of
its steps is a function of the sizes and of the values it reads. -/

@[expose] public section

noncomputable section

namespace Cert.Blocks

open Idealize.ShloMosaic

/-- The shape of a vector of `n` elements. -/
abbrev V1 (n : Nat) : Shape := ⟨1, ![n]⟩
/-- The shape of a matrix. -/
abbrev V2 (a b : Nat) : Shape := ⟨2, ![a, b]⟩
/-- The shape of a rank 3 array. -/
abbrev V3 (a b c : Nat) : Shape := ⟨3, ![a, b, c]⟩
/-- The shape of a rank 4 array. -/
abbrev V4 (a b c d : Nat) : Shape := ⟨4, ![a, b, c, d]⟩
/-- The shape of a rank 5 array. -/
abbrev V5 (a b c d e : Nat) : Shape := ⟨5, ![a, b, c, d, e]⟩

/-- The number of lanes: one per pixel of the first image. -/
abbrev Q : Nat := 2048

/-! ## The shape facts at any size -/

theorem slice3 {a b c a' b' c' o p r : Nat} (h0 : o + a' ≤ a) (h1 : p + b' ≤ b) (h2 : r + c' ≤ c) :
    (V3 a b c).Slices ![o, p, r] (V3 a' b' c') := by
  refine ⟨rfl, fun i => ?_⟩
  match i with
  | 0 => exact h0
  | 1 => exact h1
  | 2 => exact h2

theorem slice5 {a c o p : Nat} (h0 : o < 2) (h1 : p < 2) :
    (V5 a 2 c 2 Q).Slices ![0, o, 0, p, 0] (V5 a 1 c 1 Q) := by
  refine ⟨rfl, fun i => ?_⟩
  match i with
  | 0 => exact (Nat.zero_add a).le
  | 1 => exact h0
  | 2 => exact (Nat.zero_add c).le
  | 3 => exact h1
  | 4 => exact (Nat.zero_add Q).le

theorem cast_drop {w : Nat} : (V3 1 w Q).ShapeCasts (V2 w Q) := by
  simp [Shape.ShapeCasts, Shape.numel, Fin.prod_univ_succ]

theorem cast_split {h w : Nat} : (V3 (2 * h) (2 * w) Q).ShapeCasts (V5 h 2 w 2 Q) := by
  simp [Shape.ShapeCasts, Shape.numel, Fin.prod_univ_succ]; ring

theorem cast_merge {h w : Nat} : (V5 h 1 w 1 Q).ShapeCasts (V3 h w Q) := by
  simp [Shape.ShapeCasts, Shape.numel, Fin.prod_univ_succ]

theorem bcast_row {w : Nat} : (V2 1 Q).Broadcasts (V2 w Q) := by
  refine ⟨le_refl _, fun a => ?_⟩
  match a with
  | 0 => left; rfl
  | 1 => right; intro; rfl

theorem iotas0 {w : Nat} : (V2 w Q).Iotas .tc 32 [0] :=
  ⟨by simp, fun _ => ⟨.inr rfl, le_refl _⟩, fun h => absurd rfl h⟩

theorem reduces0 {w : Nat} : (V2 w Q).Reduces [0] (V1 Q) := by
  refine ⟨rfl, Nat.one_pos, fun b => ?_⟩
  match b with
  | 0 => rfl

variable {F : FTy → Type} [FloatOps F]

/-! ## The steps -/

/-- A mask as a number, 1 or 0. -/
def bit {s : Shape} (c : IVec s 1) : FVec F s .bf16 :=
  truncf .bf16 (sitofp .f32 (extui 32 c (by decide))) (by decide)

/-- 1 in the lanes whose window start lies in `[lo, hi]`. -/
def between (ys : IVec (V1 Q) 32) (lo hi : BitVec 32) : FVec F (V2 1 Q) .bf16 :=
  shapeCast (V2 1 Q) (bit (andi (cmpi .sge ys (broadcast (V1 Q) lo)) (cmpi .sle ys (broadcast (V1 Q) hi)))) (by decide)

/-- `acc` plus row `y` of the volume where the mask `m` is 1. -/
def addRow {h w : Nat} (vol : FVec F (V3 h w Q) .bf16) (y : Nat) (hy : y < h) (acc : FVec F (V2 w Q) .bf16)
    (m : FVec F (V2 1 Q) .bf16) : FVec F (V2 w Q) .bf16 :=
  addf acc (mulf (shapeCast (V2 w Q) (extractStridedSlice (V3 1 w Q) ![y, 0, 0] vol
    (slice3 (by omega) (by omega) (by omega))) cast_drop) (broadcastTo (V2 w Q) m bcast_row))

/-- The sum of the rows `r, r + 3, r + 6, …` (`n` of them) of the volume, each taken in the lanes whose window of three
    rows, which starts at `ys`, holds it. -/
def accum {h w : Nat} (vol : FVec F (V3 h w Q) .bf16) (ys : IVec (V1 Q) 32) (r : Nat) :
    (n : Nat) → 3 * n + r < h + 3 → FVec F (V2 w Q) .bf16
  | 0, _ => broadcast (V2 w Q) (Scalar.ofBits .bf16 0x0000#16)
  | n + 1, hn => addRow vol (3 * n + r) (by omega) (accum vol ys r n (by omega))
      (between ys (BitVec.ofNat 32 (4294967294 + (3 * n + r))) (BitVec.ofNat 32 (3 * n + r)))

/-- The divisor of the remainder, 3, as the program computes it. -/
def three : BitVec 32 := Scalar.select (Scalar.cmpi .eq 3#32 0#32) 1#32 3#32

/-- The remainder of `ys + d` by 3, with the sign of the divisor. -/
def rem3 (ys : IVec (V1 Q) 32) (d : BitVec 32) : IVec (V1 Q) 32 :=
  let m := remsi (addi ys (broadcast (V1 Q) d)) (broadcast (V1 Q) three)
  select (andi (xori (cmpi .slt m (broadcast (V1 Q) 0#32))
    (broadcastTo (V1 Q) (broadcast (V1 Q) (Scalar.cmpi .slt three 0#32)) (by decide))) (cmpi .ne m (broadcast (V1 Q) 0#32)))
    (addi m (broadcast (V1 Q) three)) m

/-- 1 in the lanes where the remainder is `r`. -/
def isRem (rd : IVec (V1 Q) 32) (r : BitVec 32) : FVec F (V2 1 Q) .bf16 :=
  shapeCast (V2 1 Q) (bit (cmpi .eq rd (broadcast (V1 Q) r))) (by decide)

/-- Row `d` of the window: of the three sums the one whose rows have the remainder of the row number by 3. -/
def rowOf {w : Nat} (a0 a1 a2 : FVec F (V2 w Q) .bf16) (ys : IVec (V1 Q) 32) (d : BitVec 32) : FVec F (V2 w Q) .bf16 :=
  addf (addf (mulf a0 (broadcastTo (V2 w Q) (isRem (rem3 ys d) 0#32) bcast_row))
    (mulf a1 (broadcastTo (V2 w Q) (isRem (rem3 ys d) 1#32) bcast_row)))
    (mulf a2 (broadcastTo (V2 w Q) (isRem (rem3 ys d) 2#32) bcast_row))

/-- 1 at column `xs + d` of every lane. -/
def colMask (w : Nat) (xs : IVec (V1 Q) 32) (d : BitVec 32) : FVec F (V2 w Q) .bf16 :=
  bit (cmpi .eq (iota .tc (V2 w Q) 32 [0] iotas0)
    (broadcastTo (V2 w Q) (shapeCast (V2 1 Q) (addi xs (broadcast (V1 Q) d)) (by decide)) bcast_row))

/-- The element of each lane's row that the mask holds. -/
def pickCol {w : Nat} (row mask : FVec F (V2 w Q) .bf16) : FVec F (V1 Q) .bf16 :=
  truncf .bf16 (multiReduction .add [0] (V1 Q) (extf .f32 (mulf row mask) (by decide)) 0x00000000#32 reduces0 (.inl rfl) rfl)
    (by decide)

/-- Three lane vectors as the rows of a matrix. -/
def rows3 (a b c : FVec F (V1 Q) .bf16) : FVec F (V2 3 Q) .bf16 :=
  concatenate (V2 3 Q) 0 [⟨V2 1 Q, shapeCast (V2 1 Q) a (by decide)⟩, ⟨V2 1 Q, shapeCast (V2 1 Q) b (by decide)⟩,
    ⟨V2 1 Q, shapeCast (V2 1 Q) c (by decide)⟩]
    (by decide : Shape.Concatenates [V2 1 Q, V2 1 Q, V2 1 Q] (V2 3 Q) 0)

/-- Three matrices stacked. -/
def stack3 (a b c : FVec F (V2 3 Q) .bf16) : FVec F (V3 3 3 Q) .bf16 :=
  concatenate (V3 3 3 Q) 0 [⟨V3 1 3 Q, shapeCast (V3 1 3 Q) a (by decide)⟩, ⟨V3 1 3 Q, shapeCast (V3 1 3 Q) b (by decide)⟩,
    ⟨V3 1 3 Q, shapeCast (V3 1 3 Q) c (by decide)⟩]
    (by decide : Shape.Concatenates [V3 1 3 Q, V3 1 3 Q, V3 1 3 Q] (V3 3 3 Q) 0)

/-- The window, each of its rows weighted along x with the nine weight vectors and summed. -/
def weighX (win : FVec F (V3 3 3 Q) .bf16) (wx : FVec F (V3 9 3 Q) .f32) : FVec F (V3 3 9 Q) .f32 :=
  multiReduction .add [2] (V3 3 9 Q)
    (mulf (broadcastTo (V4 3 9 3 Q) (shapeCast (V4 3 1 3 Q) (extf .f32 win (by decide)) (by decide)) (by decide))
      (broadcastTo (V4 3 9 3 Q) (shapeCast (V4 1 9 3 Q) wx (by decide)) (by decide)))
    0x00000000#32 (by decide) (.inl rfl) rfl

/-- The window of a level, weighted along x: from the three sums of rows, the window starts and the weights. -/
def weighted {w : Nat} (a0 a1 a2 : FVec F (V2 w Q) .bf16) (xs ys : IVec (V1 Q) 32) (wx : FVec F (V3 9 3 Q) .f32) :
    FVec F (V3 3 9 Q) .f32 :=
  let win (d : BitVec 32) := rows3 (pickCol (rowOf a0 a1 a2 ys d) (colMask w xs 0#32))
    (pickCol (rowOf a0 a1 a2 ys d) (colMask w xs 1#32)) (pickCol (rowOf a0 a1 a2 ys d) (colMask w xs 2#32))
  weighX (stack3 (win 0#32) (win 1#32) (win 2#32)) wx

/-- The window of a level weighted along x, from the level's volume. -/
def levelT {h w : Nat} (vol : FVec F (V3 h w Q) .bf16) (xs ys : IVec (V1 Q) 32) (wx : FVec F (V3 9 3 Q) .f32) :
    FVec F (V3 3 9 Q) .f32 :=
  weighted (accum vol ys 0 ((h + 2) / 3) (by omega)) (accum vol ys 1 ((h + 1) / 3) (by omega))
    (accum vol ys 2 (h / 3) (by omega)) xs ys wx

/-- Row `d` of the weight vector `j` along y. -/
def wyRow (wy : FVec F (V3 9 3 Q) .f32) (j d : Nat) (hj : j < 9) (hd : d < 3) : FVec F (V2 1 Q) .f32 :=
  shapeCast (V2 1 Q) (shapeCast (V1 Q) (extractStridedSlice (V3 1 1 Q) ![j, d, 0] wy (slice3 hj hd (by omega))) (by decide))
    (by decide)

/-- Row `d` of the window weighted along x, at the `n` offsets from `a` on. -/
def tRow (t : FVec F (V3 3 9 Q) .f32) (d a n : Nat) (hd : d < 3) (hn : a + n ≤ 9) : FVec F (V2 n Q) .f32 :=
  shapeCast (V2 n Q) (extractStridedSlice (V3 1 n Q) ![d, a, 0] t (slice3 hd hn (by omega))) cast_drop

/-- The samples at the offset `j` along y and the `n` offsets from `a` on along x. -/
def line (wy : FVec F (V3 9 3 Q) .f32) (t : FVec F (V3 3 9 Q) .f32) (j a n : Nat) (hj : j < 9) (hn : a + n ≤ 9) :
    FVec F (V2 n Q) .f32 :=
  addf (addf (mulf (broadcastTo (V2 n Q) (wyRow wy j 0 hj (by omega)) bcast_row) (tRow t 0 a n (by omega) hn))
    (mulf (broadcastTo (V2 n Q) (wyRow wy j 1 hj (by omega)) bcast_row) (tRow t 1 a n (by omega) hn)))
    (mulf (broadcastTo (V2 n Q) (wyRow wy j 2 hj (by omega)) bcast_row) (tRow t 2 a n (by omega) hn))

/-- The same for one offset, which needs no broadcast. -/
def line1 (wy : FVec F (V3 9 3 Q) .f32) (t : FVec F (V3 3 9 Q) .f32) (j : Nat) (hj : j < 9) : FVec F (V2 1 Q) .f32 :=
  addf (addf (mulf (wyRow wy j 0 hj (by omega)) (tRow t 0 4 1 (by omega) (by omega)))
    (mulf (wyRow wy j 1 hj (by omega)) (tRow t 1 4 1 (by omega) (by omega))))
    (mulf (wyRow wy j 2 hj (by omega)) (tRow t 2 4 1 (by omega) (by omega)))

/-- The samples of a level at all 41 offsets. -/
def samples (wy : FVec F (V3 9 3 Q) .f32) (t : FVec F (V3 3 9 Q) .f32) : FVec F (V2 41 Q) .f32 :=
  concatenate (V2 41 Q) 0 [⟨V2 1 Q, line1 wy t 0 (by omega)⟩, ⟨V2 3 Q, line wy t 1 3 3 (by omega) (by omega)⟩,
    ⟨V2 5 Q, line wy t 2 2 5 (by omega) (by omega)⟩, ⟨V2 7 Q, line wy t 3 1 7 (by omega) (by omega)⟩,
    ⟨V2 9 Q, line wy t 4 0 9 (by omega) (by omega)⟩, ⟨V2 7 Q, line wy t 5 1 7 (by omega) (by omega)⟩,
    ⟨V2 5 Q, line wy t 6 2 5 (by omega) (by omega)⟩, ⟨V2 3 Q, line wy t 7 3 3 (by omega) (by omega)⟩,
    ⟨V2 1 Q, line1 wy t 8 (by omega)⟩]
    (by decide : Shape.Concatenates [V2 1 Q, V2 3 Q, V2 5 Q, V2 7 Q, V2 9 Q, V2 7 Q, V2 5 Q, V2 3 Q, V2 1 Q] (V2 41 Q) 0)

/-- The next level of the pyramid: a quarter of the sum of four neighbours. -/
def pool {h w : Nat} (vol : FVec F (V3 (2 * h) (2 * w) Q) .bf16) : FVec F (V3 h w Q) .bf16 :=
  let a := shapeCast (V5 h 2 w 2 Q) vol cast_split
  let part (o p : Nat) (ho : o < 2) (hp : p < 2) :=
    shapeCast (V3 h w Q) (extractStridedSlice (V5 h 1 w 1 Q) ![0, o, 0, p, 0] a (slice5 ho hp)) cast_merge
  mulf (addf (addf (addf (part 0 0 (by omega) (by omega)) (part 0 1 (by omega) (by omega)))
    (part 1 0 (by omega) (by omega))) (part 1 1 (by omega) (by omega)))
    (broadcast (V3 h w Q) (Scalar.ofBits .bf16 0x3E80#16))

/-- The four levels' samples, side by side. -/
def stack4 (a b c d : FVec F (V2 41 Q) .f32) : FVec F (V4 1 41 4 Q) .f32 :=
  shapeCast (V4 1 41 4 Q) (concatenate (V3 41 4 Q) 1 [⟨V3 41 1 Q, shapeCast (V3 41 1 Q) a (by decide)⟩,
    ⟨V3 41 1 Q, shapeCast (V3 41 1 Q) b (by decide)⟩, ⟨V3 41 1 Q, shapeCast (V3 41 1 Q) c (by decide)⟩,
    ⟨V3 41 1 Q, shapeCast (V3 41 1 Q) d (by decide)⟩]
    (by decide : Shape.Concatenates [V3 41 1 Q, V3 41 1 Q, V3 41 1 Q, V3 41 1 Q] (V3 41 4 Q) 1)) (by decide)

end Cert.Blocks
-- ==== Proof.Weights.lean ====
module

public import proofs.«01_k».proof.Proof.Blocks

/-! # The sample positions and the weights of the window

For every level and axis the program computes the sample position of each of the nine offsets, the start of the window of
three pixels, and the weight of each of the three pixels in each of the nine samples. The eight (axis, level) pairs are
computed together, as blocks of nine rows of one array of 72 rows. -/

@[expose] public section

noncomputable section

namespace Cert.Blocks

open Idealize.ShloMosaic

/-! ## The pixel of a lane -/

/-- The number of each lane. -/
def lane : IVec (V1 Q) 32 := shapeCast (V1 Q) (iota .tc (V2 1 Q) 32 [1] (by decide)) (by decide)

/-- The width of the image, 64, as the program computes the divisor of its remainder. -/
def width : BitVec 32 := Scalar.select (Scalar.cmpi .eq 64#32 0#32) 1#32 64#32

/-- The remainder of the lane by the width, with the sign of the divisor. -/
def laneRem : IVec (V1 Q) 32 :=
  let m := remsi lane (broadcast (V1 Q) width)
  select (andi (xori (cmpi .slt m (broadcast (V1 Q) 0#32))
    (broadcastTo (V1 Q) (broadcast (V1 Q) (Scalar.cmpi .slt width 0#32)) (by decide))) (cmpi .ne m (broadcast (V1 Q) 0#32)))
    (addi m (broadcast (V1 Q) width)) m

/-- The quotient of the lane by the width, rounded down. -/
def laneQuot : IVec (V1 Q) 32 :=
  let d := divsi lane (broadcast (V1 Q) 64#32)
  select (andi (cmpi .ne
      (subi (extui 32 (cmpi .sgt lane (broadcast (V1 Q) 0#32)) (by decide))
        (extui 32 (cmpi .slt lane (broadcast (V1 Q) 0#32)) (by decide)))
      (broadcast (V1 Q) (Scalar.subi (Scalar.extui (Scalar.cmpi .sgt 64#32 0#32)) (Scalar.extui (Scalar.cmpi .slt 64#32 0#32)))))
    (cmpi .ne (remsi lane (broadcast (V1 Q) 64#32)) (broadcast (V1 Q) 0#32)))
    (subi d (broadcast (V1 Q) 1#32)) d

variable {F : FTy → Type} [FloatOps F]

/-- A float constant in every lane. -/
abbrev lit (s : Shape) (b : BitVec 32) : FVec F s .f32 := broadcast s (Scalar.ofBits .f32 b)

/-- The position of each lane's sample at the middle offset: the pixel `g` moved by the flow `f`, at the scale `c`. -/
def base (g : IVec (V1 Q) 32) (f : FVec F (V1 Q) .f32) (c : BitVec 32) : FVec F (V1 Q) .f32 :=
  mulf (addf (sitofp .f32 g) f) (lit (V1 Q) c)

/-- The nine offsets, −4 to 4. -/
def offsets : FVec F (V2 9 1) .f32 :=
  sitofp .f32 (subi (iota .tc (V2 9 1) 32 [0] (by decide)) (broadcast (V2 9 1) 4#32))

/-- The positions of the nine samples, `c` apart. -/
def positions (p : FVec F (V1 Q) .f32) (c : BitVec 32) : FVec F (V2 9 Q) .f32 :=
  addf (broadcastTo (V2 9 Q) (shapeCast (V2 1 Q) p (by decide)) (by decide))
    (broadcastTo (V2 9 Q) (mulf offsets (lit (V2 9 1) c)) (by decide))

/-- The start of the window: the pixel below the first sample, which lies `c` before the middle one, kept in `[0, n]`. -/
def start (p : FVec F (V1 Q) .f32) (c n : BitVec 32) : IVec (V1 Q) 32 :=
  fptosi 32 (minimumf (lit (V1 Q) n) (maximumf (lit (V1 Q) 0x00000000#32) (floor (subf p (lit (V1 Q) c)))))

/-- The window start, once for each of the nine samples. -/
def starts9 (w : IVec (V1 Q) 32) : IVec (V2 9 Q) 32 :=
  broadcastTo (V2 9 Q) (shapeCast (V2 1 Q) (shapeCast (V2 1 Q) w (by decide)) (by decide)) (by decide)

/-- Eight blocks of nine rows, stacked. -/
def rows72 {α : Type} (a : Fin 8 → (V2 9 Q).Idx → α) : (V2 72 Q).Idx → α :=
  concatenate (V2 72 Q) 0 [⟨V2 9 Q, a 0⟩, ⟨V2 9 Q, a 1⟩, ⟨V2 9 Q, a 2⟩, ⟨V2 9 Q, a 3⟩, ⟨V2 9 Q, a 4⟩, ⟨V2 9 Q, a 5⟩,
    ⟨V2 9 Q, a 6⟩, ⟨V2 9 Q, a 7⟩]
    (by decide : Shape.Concatenates [V2 9 Q, V2 9 Q, V2 9 Q, V2 9 Q, V2 9 Q, V2 9 Q, V2 9 Q, V2 9 Q] (V2 72 Q) 0)

/-- 1 where `p` lies in `[0, n]`. -/
def inside {s : Shape} (p n : FVec F s .f32) : FVec F s .f32 :=
  sitofp .f32 (extui 32 (andi (cmpf .oge p (lit s 0x00000000#32)) (cmpf .ole p n)) (by decide))

/-- The weight of the pixel `d` of the window (`d'` is `d - 1`): the lower neighbour's weight where that is the pixel, plus
    the upper neighbour's weight where that is; each is zero outside the image, whose last pixel is `n`. -/
def tap {s : Shape} (p n : FVec F s .f32) (w : IVec s 32) (d d' : BitVec 32) : FVec F s .f32 :=
  addf
    (select (cmpi .eq (subi (fptosi 32 (floor p)) w) (broadcast s d))
      (mulf (subf (lit s 0x3F800000#32) (subf p (floor p))) (inside (floor p) n)) (lit s 0x00000000#32))
    (select (cmpi .eq (subi (fptosi 32 (floor p)) w) (broadcast s d'))
      (mulf (subf p (floor p)) (inside (addf (floor p) (lit s 0x3F800000#32)) n)) (lit s 0x00000000#32))

/-- The weights of the window's three pixels. -/
def taps (p n : FVec F (V2 72 Q) .f32) (w : IVec (V2 72 Q) 32) : FVec F (V3 72 3 Q) .f32 :=
  concatenate (V3 72 3 Q) 1 [⟨V3 72 1 Q, shapeCast (V3 72 1 Q) (tap p n w 0#32 4294967295#32) (by decide)⟩,
    ⟨V3 72 1 Q, shapeCast (V3 72 1 Q) (tap p n w 1#32 0#32) (by decide)⟩,
    ⟨V3 72 1 Q, shapeCast (V3 72 1 Q) (tap p n w 2#32 1#32) (by decide)⟩]
    (by decide : Shape.Concatenates [V3 72 1 Q, V3 72 1 Q, V3 72 1 Q] (V3 72 3 Q) 1)

/-- The constants of an (axis, level) pair: the scale of a position, the distance of two samples and of four, the last start
    of a window and the last pixel. -/
structure Axis where
  scale : BitVec 32
  step : BitVec 32
  four : BitVec 32
  last : BitVec 32
  size : BitVec 32

/-- The constants of the eight pairs: x at the levels 0 to 3, then y. -/
def axis : Fin 8 → Axis := ![
  ⟨0x3DFC0000#32, 0x3DFC0000#32, 0x3EFC0000#32, 0x42740000#32, 0x427C0000#32⟩,
  ⟨0x3D780000#32, 0x3DF80000#32, 0x3EF80000#32, 0x41E80000#32, 0x41F80000#32⟩,
  ⟨0x3CF00000#32, 0x3DF00000#32, 0x3EF00000#32, 0x41500000#32, 0x41700000#32⟩,
  ⟨0x3C600000#32, 0x3DE00000#32, 0x3EE00000#32, 0x40A00000#32, 0x40E00000#32⟩,
  ⟨0x3DF80000#32, 0x3DF80000#32, 0x3EF80000#32, 0x41E80000#32, 0x41F80000#32⟩,
  ⟨0x3D700000#32, 0x3DF00000#32, 0x3EF00000#32, 0x41500000#32, 0x41700000#32⟩,
  ⟨0x3CE00000#32, 0x3DE00000#32, 0x3EE00000#32, 0x40A00000#32, 0x40E00000#32⟩,
  ⟨0x3C400000#32, 0x3DC00000#32, 0x3EC00000#32, 0x3F800000#32, 0x40400000#32⟩]

/-- The position of the middle sample of an (axis, level) pair, from the two rows of the flow. -/
def middle (fx fy : FVec F (V1 Q) .f32) (e : Fin 8) : FVec F (V1 Q) .f32 :=
  if e.val < 4 then base laneRem fx (axis e).scale else base laneQuot fy (axis e).scale

/-- The window start of an (axis, level) pair. -/
def windowStart (fx fy : FVec F (V1 Q) .f32) (e : Fin 8) : IVec (V1 Q) 32 :=
  start (middle fx fy e) (axis e).four (axis e).last

/-- The weights of all the pairs. -/
def allTaps (fx fy : FVec F (V1 Q) .f32) : FVec F (V3 72 3 Q) .f32 :=
  taps (rows72 fun e => positions (middle fx fy e) (axis e).step) (rows72 fun e => lit (V2 9 Q) (axis e).size)
    (rows72 fun e => starts9 (windowStart fx fy e))

/-- The weights of an (axis, level) pair. -/
def tapsOf (fx fy : FVec F (V1 Q) .f32) (e : Fin 8) : FVec F (V3 9 3 Q) .f32 :=
  extractStridedSlice (V3 9 3 Q) ![9 * e.val, 0, 0] (allTaps fx fy) (slice3 (by omega) (by omega) (by omega))

/-- The samples of the level `k` of a batch, from the level's volume and the two rows of the flow. -/
def levelOf {h w : Nat} (vol : FVec F (V3 h w Q) .bf16) (fx fy : FVec F (V1 Q) .f32) (k : Fin 4) : FVec F (V2 41 Q) .f32 :=
  samples (tapsOf fx fy ⟨4 + k.val, by omega⟩)
    (levelT vol (windowStart fx fy ⟨k.val, by omega⟩) (windowStart fx fy ⟨4 + k.val, by omega⟩) (tapsOf fx fy ⟨k.val, by omega⟩))

/-- The result of a batch, from its volume and the two rows of the flow. -/
def batchOf (vol : FVec F (V3 32 64 Q) .bf16) (fx fy : FVec F (V1 Q) .f32) : FVec F (V4 1 41 4 Q) .f32 :=
  stack4 (levelOf vol fx fy 0) (levelOf (pool (h := 16) (w := 32) vol) fx fy 1)
    (levelOf (pool (h := 8) (w := 16) (pool (h := 16) (w := 32) vol)) fx fy 2)
    (levelOf (pool (h := 4) (w := 8) (pool (h := 8) (w := 16) (pool (h := 16) (w := 32) vol))) fx fy 3)

end Cert.Blocks
-- ==== Proof.Reads.lean ====
module

public import proofs.«01_k».proof.Proof.Weights
public import Idealize.ShloMosaic.Lib.Routing.Words

/-! # The building blocks read at an index, over the extended reals -/

@[expose] public section

set_option maxRecDepth 16384

noncomputable section

namespace Cert.Blocks

open Idealize.ShloMosaic

/-! ## Reshapes at any size -/

theorem cast_drop_apply {α : Type} {w : Nat} (v : (V3 1 w Q).Idx → α) (x : Fin w) (q : Fin Q) :
    shapeCast (V2 w Q) v cast_drop (ix2 x q) = v (ix3 0 x q) := by
  unfold shapeCast
  refine congrArg v (Shape.reshapeEquiv_eq_of_rowMajor _ ?_)
  rw [rowMajor_val2 _ Q rfl, rowMajor_val3 _ (w * Q) Q rfl rfl]
  show 0 * (w * Q) + x.val * Q + q.val = x.val * Q + q.val
  ring

theorem split_idx {h w : Nat} (y : Fin h) (a : Fin 2) (x : Fin w) (b : Fin 2) (q : Fin Q) :
    Shape.reshapeEquiv cast_split (ix5 y a x b q)
      = (ix3 ⟨2 * y.val + a.val, by omega⟩ ⟨2 * x.val + b.val, by omega⟩ q : (V3 (2 * h) (2 * w) Q).Idx) := by
  refine Shape.reshapeEquiv_eq_of_rowMajor _ ?_
  rw [rowMajor_val5 _ (2 * (w * (2 * Q))) (w * (2 * Q)) (2 * Q) Q rfl rfl rfl rfl, rowMajor_val3 _ (2 * w * Q) Q rfl rfl]
  show (2 * y.val + a.val) * (2 * w * Q) + (2 * x.val + b.val) * Q + q.val
    = y.val * (2 * (w * (2 * Q))) + a.val * (w * (2 * Q)) + x.val * (2 * Q) + b.val * Q + q.val
  ring

theorem cast_merge_apply {α : Type} {h w : Nat} (v : (V5 h 1 w 1 Q).Idx → α) (y : Fin h) (x : Fin w) (q : Fin Q) :
    shapeCast (V3 h w Q) v cast_merge (ix3 y x q) = v (ix5 y 0 x 0 q) := by
  unfold shapeCast
  refine congrArg v (Shape.reshapeEquiv_eq_of_rowMajor _ ?_)
  rw [rowMajor_val5 _ (1 * (w * (1 * Q))) (w * (1 * Q)) (1 * Q) Q rfl rfl rfl rfl, rowMajor_val3 _ (w * Q) Q rfl rfl]
  show y.val * (1 * (w * (1 * Q))) + 0 * (w * (1 * Q)) + x.val * (1 * Q) + 0 * Q + q.val = y.val * (w * Q) + x.val * Q + q.val
  ring

/-! ## Masks -/

theorem bit_apply {s : Shape} (c : IVec s 1) (i : s.Idx) : (bit c : FVec Ideal s .bf16) i = if c i = 1#1 then 1 else 0 := by
  show (((BitVec.setWidth 32 (c i)).toInt : ℝ) : EReal) = _
  rcases BitVec.eq_zero_or_eq_one (c i) with h | h <;> rw [h] <;> simp

theorem cmpi_eq_one {n : Nat} (a b : BitVec n) : IntOp.cmpi .eq a b = 1#1 ↔ a = b := by
  show BitVec.ofBool (a == b) = 1#1 ↔ _
  by_cases h : a = b
  · simp [h]
  · have hb : (a == b) = false := by simpa using h
    rw [hb]
    simp [h]

theorem between_apply (ys : IVec (V1 Q) 32) (lo hi : BitVec 32) (q : Fin Q) :
    (between ys lo hi : FVec Ideal (V2 1 Q) .bf16) (ix2 0 q)
      = if lo.toInt ≤ (ys (ix1 q)).toInt ∧ (ys (ix1 q)).toInt ≤ hi.toInt then 1 else 0 := by
  unfold between
  pointwise [bit_apply]
  simp [IntOp.cmpi, IntOp.andi, BitVec.sle_iff_toInt_le]
  refine if_congr ?_ rfl rfl
  rw [BitVec.sle_iff_toInt_le.symm, BitVec.sle_iff_toInt_le.symm]
  cases lo.sle (ys (ix1 q)) <;> cases (ys (ix1 q)).sle hi <;> simp

theorem addRow_apply {h w : Nat} (vol : FVec Ideal (V3 h w Q) .bf16) (y : Nat) (hy : y < h) (acc : FVec Ideal (V2 w Q) .bf16)
    (m : FVec Ideal (V2 1 Q) .bf16) (x : Fin w) (q : Fin Q) :
    addRow vol y hy acc m (ix2 x q) = acc (ix2 x q) + vol (ix3 ⟨y, hy⟩ x q) * m (ix2 0 q) := by
  unfold addRow
  rw [addf_apply, mulf_apply, cast_drop_apply]
  pointwise

theorem colMask_apply {w : Nat} (xs : IVec (V1 Q) 32) (d : BitVec 32) (x : Fin w) (q : Fin Q) :
    (colMask w xs d : FVec Ideal (V2 w Q) .bf16) (ix2 x q) = if BitVec.ofNat 32 x.val = xs (ix1 q) + d then 1 else 0 := by
  unfold colMask
  pointwise [bit_apply]
  refine if_congr ?_ rfl rfl
  exact cmpi_eq_one _ _

theorem pickCol_apply {w : Nat} (row mask : FVec Ideal (V2 w Q) .bf16) (q : Fin Q) :
    pickCol row mask (ix1 q) = ∑ x : Fin w, row (ix2 x q) * mask (ix2 x q) := by
  unfold pickCol
  pointwise

theorem rows3_apply (f : Fin 3 → FVec Ideal (V1 Q) .bf16) (d : Fin 3) (q : Fin Q) :
    rows3 (f 0) (f 1) (f 2) (ix2 d q) = f d (ix1 q) := by
  unfold rows3
  fin_cases d <;> pointwise

theorem stack3_apply (f : Fin 3 → FVec Ideal (V2 3 Q) .bf16) (d e : Fin 3) (q : Fin Q) :
    stack3 (f 0) (f 1) (f 2) (ix3 d e q) = f d (ix2 e q) := by
  unfold stack3
  fin_cases d <;> pointwise

theorem weighX_apply (win : FVec Ideal (V3 3 3 Q) .bf16) (wx : FVec Ideal (V3 9 3 Q) .f32) (d : Fin 3) (o : Fin 9) (q : Fin Q) :
    weighX win wx (ix3 d o q) = ∑ e : Fin 3, win (ix3 d e q) * wx (ix3 o e q) := by
  unfold weighX
  pointwise

theorem pool_apply {h w : Nat} (vol : FVec Ideal (V3 (2 * h) (2 * w) Q) .bf16) (y : Fin h) (x : Fin w) (q : Fin Q) :
    pool vol (ix3 y x q) = (vol (ix3 ⟨2 * y.val, by omega⟩ ⟨2 * x.val, by omega⟩ q)
      + vol (ix3 ⟨2 * y.val, by omega⟩ ⟨2 * x.val + 1, by omega⟩ q)
      + vol (ix3 ⟨2 * y.val + 1, by omega⟩ ⟨2 * x.val, by omega⟩ q)
      + vol (ix3 ⟨2 * y.val + 1, by omega⟩ ⟨2 * x.val + 1, by omega⟩ q)) * Ideal.ofBits .bf16 0x3E80#16 := by
  unfold pool
  dsimp only
  rw [mulf_apply, addf_apply, addf_apply, addf_apply, cast_merge_apply, cast_merge_apply, cast_merge_apply, cast_merge_apply]
  have e (a b : Fin 2) := split_idx (h := h) (w := w) y a x b q
  pointwise [e]

theorem stack4_apply (f : Fin 4 → FVec Ideal (V2 41 Q) .f32) (o : Fin 41) (k : Fin 4) (q : Fin Q) :
    stack4 (f 0) (f 1) (f 2) (f 3) (ix4 0 o k q) = f k (ix2 o q) := by
  unfold stack4
  fin_cases k <;> pointwise

/-! ## The rows of the window -/

theorem toInt_low {k : Nat} (hk : k < 2 ^ 20) : (BitVec.ofNat 32 (4294967294 + k)).toInt = (k : Int) - 2 := by
  rw [BitVec.toInt_ofNat', Int.bmod_def]
  split <;> omega

theorem toInt_small {k : Nat} (hk : k < 2 ^ 20) : (BitVec.ofNat 32 k).toInt = (k : Int) := by
  rw [BitVec.toInt_ofNat', Int.bmod_def]
  split <;> omega

/-- The sum of the rows of remainder `r`: the one of them that lies in the lane's window. -/
theorem accum_apply {h w : Nat} (hh : h < 2 ^ 19) (vol : FVec Ideal (V3 h w Q) .bf16) (ys : IVec (V1 Q) 32) (q : Fin Q)
    (y : Nat) (hy : y + 2 < h) (e : ys (ix1 q) = BitVec.ofNat 32 y) (r : Nat) (hr : r < 3) (x : Fin w) (n : Nat)
    (hn : 3 * n + r < h + 3) :
    accum vol ys r n hn (ix2 x q) =
      if y + (r + 2 * y) % 3 < 3 * n + r then vol (ix3 ⟨y + (r + 2 * y) % 3, by omega⟩ x q) else 0 := by
  induction n with
  | zero =>
    rw [if_neg (by omega)]
    exact Ideal.ofBits_zero_bf16
  | succ n ih =>
    show addRow vol (3 * n + r) _ (accum vol ys r n _) _ (ix2 x q) = _
    rw [addRow_apply, ih, between_apply, e, toInt_low (by omega), toInt_small (by omega), toInt_small (by omega)]
    by_cases h1 : y + (r + 2 * y) % 3 < 3 * n + r
    · rw [if_pos h1, if_neg (by omega), if_pos (by omega), mul_zero, add_zero]
    · by_cases h2 : y + (r + 2 * y) % 3 = 3 * n + r
      · rw [if_neg h1, if_pos (by omega), if_pos (by omega), zero_add, mul_one]
        simp only [h2]
      · rw [if_neg h1, if_neg (by omega), if_neg (by omega), mul_zero, add_zero]

theorem isRem_apply (rd : IVec (V1 Q) 32) (r : BitVec 32) (q : Fin Q) :
    (isRem rd r : FVec Ideal (V2 1 Q) .bf16) (ix2 0 q) = if rd (ix1 q) = r then 1 else 0 := by
  unfold isRem
  pointwise [bit_apply]
  refine if_congr ?_ rfl rfl
  exact cmpi_eq_one _ _

/-- The correction of a remainder's sign is not taken where the remainder and the divisor are natural numbers. -/
theorem keep_nonneg {k : Nat} (hk : k < 2 ^ 20) {n : BitVec 32} (hn : Scalar.cmpi .slt n 0#32 = 0#1) (a : BitVec 1)
    (b : BitVec 32) : Scalar.select (IntOp.andi (IntOp.xori (IntOp.cmpi .slt (BitVec.ofNat 32 k) 0#32)
      (Scalar.cmpi .slt n 0#32)) a) b (BitVec.ofNat 32 k) = BitVec.ofNat 32 k := by
  have h0 : IntOp.cmpi .slt (BitVec.ofNat 32 k) 0#32 = 0#1 := by
    show BitVec.ofBool ((BitVec.ofNat 32 k).slt 0#32) = 0#1
    have : (BitVec.ofNat 32 k).slt 0#32 = false := by
      rw [Bool.eq_false_iff, ne_eq, BitVec.slt_iff_toInt_lt, toInt_small hk]
      simp
    rw [this]; rfl
  rw [hn, h0, show IntOp.xori 0#1 0#1 = 0#1 by decide, show IntOp.andi 0#1 a = 0#1 from BitVec.zero_and]
  rfl

theorem rem3_apply (ys : IVec (V1 Q) 32) (d : Nat) (hd : d < 3) (q : Fin Q) (y : Nat) (hy : y < 2 ^ 19)
    (e : ys (ix1 q) = BitVec.ofNat 32 y) : rem3 ys (BitVec.ofNat 32 d) (ix1 q) = BitVec.ofNat 32 ((y + d) % 3) := by
  have h3 : three = 3#32 := by decide
  have ha : IntOp.addi (BitVec.ofNat 32 y) (BitVec.ofNat 32 d) = BitVec.ofNat 32 (y + d) := (BitVec.ofNat_add y d).symm
  unfold rem3
  pointwise [h3]
  rw [e, ha, show (3#32) = BitVec.ofNat 32 3 from rfl, Routing.remsi_word _ (by omega) (by omega) (by omega)]
  exact keep_nonneg (by omega) (by decide) _ _

theorem rowOf_apply {w : Nat} (a : Fin 3 → FVec Ideal (V2 w Q) .bf16) (ys : IVec (V1 Q) 32) (d : BitVec 32) (x : Fin w)
    (q : Fin Q) : rowOf (a 0) (a 1) (a 2) ys d (ix2 x q) =
      a 0 (ix2 x q) * (if rem3 ys d (ix1 q) = 0#32 then 1 else 0) + a 1 (ix2 x q) * (if rem3 ys d (ix1 q) = 1#32 then 1 else 0)
        + a 2 (ix2 x q) * (if rem3 ys d (ix1 q) = 2#32 then 1 else 0) := by
  unfold rowOf
  rw [← isRem_apply, ← isRem_apply, ← isRem_apply]
  pointwise

/-! ## The samples -/

/-- The row of an offset: its place along y. -/
def rowAt : Fin 41 → Fin 9 := ![0, 1, 1, 1, 2, 2, 2, 2, 2, 3, 3, 3, 3, 3, 3, 3, 4, 4, 4, 4, 4, 4, 4, 4, 4, 5, 5, 5, 5, 5, 5, 5,
  6, 6, 6, 6, 6, 7, 7, 7, 8]
/-- The column of an offset: its place along x. -/
def colAt : Fin 41 → Fin 9 := ![4, 3, 4, 5, 2, 3, 4, 5, 6, 1, 2, 3, 4, 5, 6, 7, 0, 1, 2, 3, 4, 5, 6, 7, 8, 1, 2, 3, 4, 5, 6, 7,
  2, 3, 4, 5, 6, 3, 4, 5, 4]

theorem wyRow_apply (wy : FVec Ideal (V3 9 3 Q) .f32) (j d : Nat) (hj : j < 9) (hd : d < 3) (q : Fin Q) :
    wyRow wy j d hj hd (ix2 0 q) = wy (ix3 ⟨j, hj⟩ ⟨d, hd⟩ q) := by
  unfold wyRow
  pointwise

theorem tRow_apply (t : FVec Ideal (V3 3 9 Q) .f32) (d a n : Nat) (hd : d < 3) (hn : a + n ≤ 9) (x : Fin n) (q : Fin Q) :
    tRow t d a n hd hn (ix2 x q) = t (ix3 ⟨d, hd⟩ ⟨a + x.val, by omega⟩ q) := by
  unfold tRow
  rw [cast_drop_apply]
  pointwise

theorem line_apply (wy : FVec Ideal (V3 9 3 Q) .f32) (t : FVec Ideal (V3 3 9 Q) .f32) (j a n : Nat) (hj : j < 9)
    (hn : a + n ≤ 9) (x : Fin n) (q : Fin Q) : line wy t j a n hj hn (ix2 x q)
      = ∑ d : Fin 3, wy (ix3 ⟨j, hj⟩ d q) * t (ix3 d ⟨a + x.val, by omega⟩ q) := by
  unfold line
  rw [Fin.sum_univ_three, addf_apply, addf_apply, mulf_apply, mulf_apply, mulf_apply, tRow_apply, tRow_apply, tRow_apply]
  pointwise [wyRow_apply]

theorem line1_apply (wy : FVec Ideal (V3 9 3 Q) .f32) (t : FVec Ideal (V3 3 9 Q) .f32) (j : Nat) (hj : j < 9) (q : Fin Q) :
    line1 wy t j hj (ix2 0 q) = ∑ d : Fin 3, wy (ix3 ⟨j, hj⟩ d q) * t (ix3 d 4 q) := by
  unfold line1
  rw [Fin.sum_univ_three, addf_apply, addf_apply, mulf_apply, mulf_apply, mulf_apply, tRow_apply, tRow_apply, tRow_apply,
    wyRow_apply, wyRow_apply, wyRow_apply]
  rfl

theorem samples_apply (wy : FVec Ideal (V3 9 3 Q) .f32) (t : FVec Ideal (V3 3 9 Q) .f32) (o : Fin 41) (q : Fin Q) :
    samples wy t (ix2 o q) = ∑ d : Fin 3, wy (ix3 (rowAt o) d q) * t (ix3 d (colAt o) q) := by
  unfold samples
  fin_cases o <;> pointwise [line_apply, line1_apply] <;> rfl

end Cert.Blocks
-- ==== Proof.Level.lean ====
module

public import proofs.«01_k».proof.Proof.Reads

/-! # The window of a level, read at a lane -/

@[expose] public section

noncomputable section

namespace Cert.Blocks

open Idealize.ShloMosaic

variable {h w : Nat} (vol : FVec Ideal (V3 h w Q) .bf16) (xs ys : IVec (V1 Q) 32) (q : Fin Q)

/-- Row `d` of the lane's window is row `y + d` of the volume, where `y` is the window's start. -/
theorem windowRow_apply (hh : h < 2 ^ 19) (y : Nat) (hy : y + 2 < h) (e : ys (ix1 q) = BitVec.ofNat 32 y) (d : Fin 3)
    (x : Fin w) :
    rowOf (accum vol ys 0 ((h + 2) / 3) (by omega)) (accum vol ys 1 ((h + 1) / 3) (by omega))
      (accum vol ys 2 (h / 3) (by omega)) ys (BitVec.ofNat 32 d.val) (ix2 x q) = vol (ix3 ⟨y + d.val, by omega⟩ x q) := by
  have hd := d.isLt
  refine (rowOf_apply ![accum vol ys 0 ((h + 2) / 3) (by omega), accum vol ys 1 ((h + 1) / 3) (by omega),
      accum vol ys 2 (h / 3) (by omega)] ys _ x q).trans ?_
  show accum vol ys 0 ((h + 2) / 3) _ (ix2 x q) * _ + accum vol ys 1 ((h + 1) / 3) _ (ix2 x q) * _
    + accum vol ys 2 (h / 3) _ (ix2 x q) * _ = _
  rw [accum_apply hh vol ys q y hy e 0 (by omega), accum_apply hh vol ys q y hy e 1 (by omega),
    accum_apply hh vol ys q y hy e 2 (by omega), rem3_apply ys d.val hd q y (by omega) e,
    if_pos (show y + (0 + 2 * y) % 3 < 3 * ((h + 2) / 3) + 0 by omega),
    if_pos (show y + (1 + 2 * y) % 3 < 3 * ((h + 1) / 3) + 1 by omega),
    if_pos (show y + (2 + 2 * y) % 3 < 3 * (h / 3) + 2 by omega)]
  obtain h0 | h0 | h0 : (y + d.val) % 3 = 0 ∨ (y + d.val) % 3 = 1 ∨ (y + d.val) % 3 = 2 := by omega
  all_goals
    rw [h0]
    simp only [BitVec.reduceEq, ↓reduceIte, mul_zero, mul_one, zero_add, add_zero, reduceCtorEq]
    refine congrArg (fun i => vol (ix3 i x q)) (Fin.ext ?_)
    dsimp only
    omega

/-- Pixel `d` of a row, counted from the window's start `x`, is the sum over the row with the mask of its column. -/
theorem pickCol_colMask (hw : w < 2 ^ 19) (row : FVec Ideal (V2 w Q) .bf16) (x : Nat) (hx : x + 2 < w)
    (e : xs (ix1 q) = BitVec.ofNat 32 x) (d : Fin 3) :
    pickCol row (colMask w xs (BitVec.ofNat 32 d.val)) (ix1 q) = row (ix2 ⟨x + d.val, by omega⟩ q) := by
  have hd := d.isLt
  rw [pickCol_apply, Finset.sum_eq_single (⟨x + d.val, by omega⟩ : Fin w)]
  · rw [colMask_apply, e, if_pos (BitVec.ofNat_add x d.val), mul_one]
  · intro b _ hb
    rw [colMask_apply, e, if_neg, mul_zero]
    intro hc
    rw [← BitVec.ofNat_add] at hc
    have := congrArg BitVec.toNat hc
    simp only [BitVec.toNat_ofNat] at this
    exact hb (Fin.ext (by show b.val = x + d.val; omega))
  · intro hc
    exact absurd (Finset.mem_univ _) hc

/-- The window weighted along x: row `d` of the window, weighted with the three weights of the offset `o`. -/
theorem levelT_apply (hh : h < 2 ^ 19) (hw : w < 2 ^ 19) (wx : FVec Ideal (V3 9 3 Q) .f32) (y x : Nat) (hy : y + 2 < h)
    (hx : x + 2 < w) (ey : ys (ix1 q) = BitVec.ofNat 32 y) (ex : xs (ix1 q) = BitVec.ofNat 32 x) (d : Fin 3) (o : Fin 9) :
    levelT vol xs ys wx (ix3 d o q) =
      ∑ e : Fin 3, vol (ix3 ⟨y + d.val, by omega⟩ ⟨x + e.val, by omega⟩ q) * wx (ix3 o e q) := by
  unfold levelT weighted
  dsimp only
  rw [weighX_apply]
  refine Finset.sum_congr rfl fun e _ => congrArg (· * wx (ix3 o e q)) ?_
  let row (d : Fin 3) := rowOf (accum vol ys 0 ((h + 2) / 3) (by omega)) (accum vol ys 1 ((h + 1) / 3) (by omega))
      (accum vol ys 2 (h / 3) (by omega)) ys (BitVec.ofNat 32 d.val)
  let pix (d e : Fin 3) := pickCol (row d) (colMask w xs (BitVec.ofNat 32 e.val))
  refine (stack3_apply (fun d => rows3 (pix d 0) (pix d 1) (pix d 2)) d e q).trans ?_
  refine (rows3_apply (pix d) e q).trans ?_
  refine (pickCol_colMask xs q hw _ x hx ex e).trans ?_
  exact windowRow_apply vol ys q hh y hy ey d _

/-- A sample of a level: the sum over the window, weighted along both axes. -/
theorem levelOf_apply (hh : h < 2 ^ 19) (hw : w < 2 ^ 19) (fx fy : FVec Ideal (V1 Q) .f32) (k : Fin 4) (y x : Nat)
    (hy : y + 2 < h) (hx : x + 2 < w) (ey : windowStart fx fy ⟨4 + k.val, by omega⟩ (ix1 q) = BitVec.ofNat 32 y)
    (ex : windowStart fx fy ⟨k.val, by omega⟩ (ix1 q) = BitVec.ofNat 32 x) (o : Fin 41) :
    levelOf vol fx fy k (ix2 o q) =
      ∑ d : Fin 3, tapsOf fx fy ⟨4 + k.val, by omega⟩ (ix3 (rowAt o) d q) *
        ∑ e : Fin 3, vol (ix3 ⟨y + d.val, by omega⟩ ⟨x + e.val, by omega⟩ q) *
          tapsOf fx fy ⟨k.val, by omega⟩ (ix3 (colAt o) e q) := by
  unfold levelOf
  rw [samples_apply]
  refine Finset.sum_congr rfl fun d _ => ?_
  rw [levelT_apply vol _ _ q hh hw _ y x hy hx ey ex]

end Cert.Blocks
-- ==== Proof.Bilinear.lean ====
module

public import Idealize.ShloMosaic.Lib.Pointwise

/-! # The window of a bilinear sample

The samples of a lane lie less than one pixel from the first of them, so three neighbouring pixels hold the two neighbours of
every sample; a neighbour outside the image has the weight zero. -/

@[expose] public section

noncomputable section

namespace Cert.Bilinear

open Idealize.ShloMosaic

/-- The pixel below a position. -/
abbrev below (p : EReal) : EReal := Ideal.liftRound Int.floor p

/-- 1 where `a` lies in `[0, n]`, else 0. -/
def inImage (a n : EReal) : EReal := if 0 ≤ a ∧ a ≤ n then 1 else 0

/-- The weight of the lower neighbour. -/
def lower (p n : EReal) : EReal := (1 - (p - below p)) * inImage (below p) n

/-- The weight of the upper neighbour. -/
def upper (p n : EReal) : EReal := (p - below p) * inImage (below p + 1) n

/-- The number of the pixel at `a`, clamped to `[0, n]`. -/
def pixel (a n : EReal) : BitVec 32 := Ideal.fptosi 32 (min n (max 0 a))

/-- The weight of the pixel `w + d` (`d'` is `d - 1`). -/
def weight (p n : EReal) (w d d' : BitVec 32) : EReal :=
  (if Ideal.fptosi 32 (below p) - w = d then lower p n else 0) + (if Ideal.fptosi 32 (below p) - w = d' then upper p n else 0)

theorem below_coe (r : ℝ) : below (r : EReal) = ((⌊r⌋ : ℝ) : EReal) := rfl

theorem inImage_coe (m : ℤ) (n : ℕ) : inImage ((m : ℝ) : EReal) ((n : ℝ) : EReal) = if 0 ≤ m ∧ m ≤ n then 1 else 0 := by
  unfold inImage
  refine if_congr ?_ rfl rfl
  rw [← EReal.coe_zero, EReal.coe_le_coe_iff, EReal.coe_le_coe_iff]
  exact_mod_cast Iff.rfl

theorem succ_coe (m : ℤ) : ((m : ℝ) : EReal) + 1 = (((m + 1 : ℤ) : ℝ) : EReal) := by
  push_cast
  rfl

theorem inImage_top (n : ℕ) : inImage ⊤ ((n : ℝ) : EReal) = 0 :=
  if_neg fun h => absurd (top_le_iff.1 h.2) (EReal.coe_ne_top _)

theorem inImage_bot (n : ℕ) : inImage ⊥ ((n : ℝ) : EReal) = 0 :=
  if_neg fun h => absurd h.1 (by simp)

theorem lower_top (n : ℕ) : lower ⊤ ((n : ℝ) : EReal) = 0 := by
  unfold lower
  rw [show below ⊤ = ⊤ from rfl, inImage_top, mul_zero]

theorem lower_bot (n : ℕ) : lower ⊥ ((n : ℝ) : EReal) = 0 := by
  unfold lower
  rw [show below ⊥ = ⊥ from rfl, inImage_bot, mul_zero]

theorem upper_top (n : ℕ) : upper ⊤ ((n : ℝ) : EReal) = 0 := by
  unfold upper
  rw [show below ⊤ + 1 = ⊤ from EReal.top_add_coe 1, inImage_top, mul_zero]

theorem upper_bot (n : ℕ) : upper ⊥ ((n : ℝ) : EReal) = 0 := by
  unfold upper
  rw [show below ⊥ + 1 = ⊥ from EReal.bot_add _, inImage_bot, mul_zero]

theorem lower_coe (r : ℝ) (n : ℕ) : lower (r : EReal) ((n : ℝ) : EReal)
    = ((if 0 ≤ ⌊r⌋ ∧ ⌊r⌋ ≤ n then 1 - (r - ⌊r⌋) else 0 : ℝ) : EReal) := by
  unfold lower
  rw [below_coe, inImage_coe]
  split
  · rw [mul_one]; rfl
  · rw [mul_zero]; rfl

theorem upper_coe (r : ℝ) (n : ℕ) : upper (r : EReal) ((n : ℝ) : EReal)
    = ((if 0 ≤ ⌊r⌋ + 1 ∧ ⌊r⌋ + 1 ≤ n then r - ⌊r⌋ else 0 : ℝ) : EReal) := by
  unfold upper
  rw [below_coe, succ_coe, inImage_coe]
  split
  · rw [mul_one]; rfl
  · rw [mul_zero]; rfl

/-- The lower weight is a natural factor: not negative and not infinite. -/
theorem lower_nonneg (p : EReal) (n : ℕ) : 0 ≤ lower p ((n : ℝ) : EReal) ∧ lower p ((n : ℝ) : EReal) ≠ ⊤ := by
  induction p with
  | bot => rw [lower_bot]; simp
  | top => rw [lower_top]; simp
  | coe r =>
    rw [lower_coe]
    refine ⟨?_, EReal.coe_ne_top _⟩
    rw [← EReal.coe_zero, EReal.coe_le_coe_iff]
    split
    · have := Int.lt_floor_add_one r
      linarith
    · exact le_refl _

/-- The upper weight is not negative and not infinite. -/
theorem upper_nonneg (p : EReal) (n : ℕ) : 0 ≤ upper p ((n : ℝ) : EReal) ∧ upper p ((n : ℝ) : EReal) ≠ ⊤ := by
  induction p with
  | bot => rw [upper_bot]; simp
  | top => rw [upper_top]; simp
  | coe r =>
    rw [upper_coe]
    refine ⟨?_, EReal.coe_ne_top _⟩
    rw [← EReal.coe_zero, EReal.coe_le_coe_iff]
    split
    · have := Int.floor_le r
      linarith
    · exact le_refl _

/-- The integer of an integer of small size. -/
theorem fptosi_coe {m : ℤ} (h0 : -(2 ^ 31) ≤ m) (h1 : m < 2 ^ 31) : Ideal.fptosi 32 ((m : ℝ) : EReal) = BitVec.ofInt 32 m := by
  show BitVec.ofInt 32 (max _ (min _ (if 0 ≤ (m : ℝ) then ⌊(m : ℝ)⌋ else ⌈(m : ℝ)⌉))) = _
  rw [Int.floor_intCast, Int.ceil_intCast, ite_self]
  congr 1
  rw [max_eq_right, min_eq_right] <;> norm_num <;> omega

theorem clamp_coe (m : ℤ) (n : ℕ) : min ((n : ℝ) : EReal) (max 0 ((m : ℝ) : EReal)) = ((min (n : ℤ) (max 0 m) : ℤ) : ℝ) := by
  push_cast
  rw [EReal.coe_strictMono.monotone.map_min, EReal.coe_strictMono.monotone.map_max]
  rfl

/-- The pixel of an integer is that integer, clamped. -/
theorem pixel_coe (m : ℤ) {n : ℕ} (hn : n < 2 ^ 31) : pixel ((m : ℝ) : EReal) ((n : ℝ) : EReal)
    = BitVec.ofNat 32 (min (n : ℤ) (max 0 m)).toNat := by
  unfold pixel
  rw [clamp_coe, fptosi_coe (by omega) (by omega)]
  obtain ⟨k, hk⟩ := Int.eq_ofNat_of_zero_le (show 0 ≤ min (n : ℤ) (max 0 m) by omega)
  rw [hk, Int.toNat_natCast, BitVec.ofInt_natCast]

/-- A pixel is one of the image. -/
theorem pixel_le (a : EReal) {n : ℕ} (hn : n < 2 ^ 31) : (pixel a ((n : ℝ) : EReal)).toNat ≤ n := by
  have key : ∀ m : ℤ, (pixel ((m : ℝ) : EReal) ((n : ℝ) : EReal)).toNat ≤ n := fun m => by
    rw [pixel_coe m hn, BitVec.toNat_ofNat]
    omega
  induction a with
  | bot =>
    have := key 0
    unfold pixel at this ⊢
    simpa using this
  | top =>
    have := key n
    unfold pixel at this ⊢
    simpa using this
  | coe r =>
    unfold pixel Ideal.fptosi
    have h : min ((n : ℝ) : EReal) (max 0 ((r : ℝ) : EReal)) = ((min (n : ℝ) (max 0 r) : ℝ) : EReal) := by
      rw [EReal.coe_strictMono.monotone.map_min, EReal.coe_strictMono.monotone.map_max]
      rfl
    have h0 : 0 ≤ min (n : ℝ) (max 0 r) := le_min (Nat.cast_nonneg n) (le_max_left _ _)
    rw [h]
    show (BitVec.ofInt 32 (max _ (min _ (if 0 ≤ min (n : ℝ) (max 0 r) then ⌊min (n : ℝ) (max 0 r)⌋ else _)))).toNat ≤ n
    rw [if_pos h0]
    have h1 : 0 ≤ ⌊min (n : ℝ) (max 0 r)⌋ := Int.floor_nonneg.2 h0
    have h2 : ⌊min (n : ℝ) (max 0 r)⌋ ≤ n := by
      have := Int.floor_le_floor (min_le_left (n : ℝ) (max 0 r))
      rwa [Int.floor_natCast] at this
    obtain ⟨k, hk⟩ := Int.eq_ofNat_of_zero_le h1
    rw [hk] at h2 ⊢
    rw [max_eq_right, min_eq_right, BitVec.ofInt_natCast, BitVec.toNat_ofNat] <;> norm_num <;> omega

/-- The three products of a window, where each nonzero weight falls on one of its pixels. -/
theorem window_sum {D : BitVec 32} {a b : EReal} {A B : EReal} (G : ℕ → EReal)
    (ha : a = 0 ∨ ∃ d < 3, D = BitVec.ofNat 32 d ∧ A = G d) (hb : b = 0 ∨ ∃ d < 3, D = BitVec.ofNat 32 d - 1#32 ∧ B = G d) :
    ∑ d : Fin 3, G d.val * ((if D = BitVec.ofNat 32 d.val then a else 0) + (if D = BitVec.ofNat 32 d.val - 1#32 then b else 0))
      = a * A + b * B := by
  rw [Fin.sum_univ_three]
  rcases ha with rfl | ⟨d, hd, rfl, rfl⟩
  · rcases hb with rfl | ⟨d', hd', rfl, rfl⟩
    · simp
    · interval_cases d' <;> simp [mul_comm]
  · rcases hb with rfl | ⟨d', hd', h, rfl⟩
    · interval_cases d <;> simp [mul_comm]
    · interval_cases d <;> interval_cases d' <;> first | (exfalso; revert h; decide) | simp [mul_comm]

theorem ofNat_sub {k x : ℕ} (h : x ≤ k) : BitVec.ofNat 32 k - BitVec.ofNat 32 x = BitVec.ofNat 32 (k - x) := by
  obtain ⟨d, rfl⟩ := Nat.exists_eq_add_of_le h
  rw [BitVec.ofNat_add, Nat.add_sub_cancel_left]
  rw [BitVec.add_comm, BitVec.add_sub_cancel]

/-- The lower neighbour of a sample is that of the first sample, or the one after it. -/
theorem first_bounds {s : ℝ} (hs : 0 ≤ s) (hs' : 8 * s < 1) {o : ℕ} (ho : o ≤ 8) (r : ℝ) :
    ⌊r - 4 * s⌋ ≤ ⌊r + ((o : ℝ) - 4) * s⌋ ∧ ⌊r + ((o : ℝ) - 4) * s⌋ ≤ ⌊r - 4 * s⌋ + 1 := by
  have ho' : (o : ℝ) ≤ 8 := by exact_mod_cast ho
  have h0 : 0 ≤ (o : ℝ) * s := mul_nonneg (Nat.cast_nonneg o) hs
  have h1 : (o : ℝ) * s ≤ 8 * s := mul_le_mul_of_nonneg_right ho' hs
  refine ⟨Int.floor_le_floor (by linarith), ?_⟩
  rw [← Int.floor_add_one]
  exact Int.floor_le_floor (by linarith)

/-- Along one axis: the window's pixels, each times its weight, sum to the two neighbours, each times its weight. The sample
    lies `o` steps after the first one, whose lower neighbour, clamped, is the start of the window. -/
theorem axis_sum (p : EReal) {s : ℝ} (hs : 0 ≤ s) (hs' : 8 * s < 1) {n : ℕ} (hn : 2 ≤ n) (hn' : n < 2 ^ 20) (o : ℕ) (ho : o ≤ 8)
    (G : ℕ → EReal) (q : EReal) (hq : q = p + (((o : ℝ) - 4) * s : ℝ)) (x : ℕ)
    (hx : x = (pixel (below (p - ((4 * s : ℝ) : EReal))) (((n - 2 : ℕ) : ℝ) : EReal)).toNat) :
    ∑ d : Fin 3, G (x + d.val) * weight q ((n : ℝ) : EReal) (BitVec.ofNat 32 x) (BitVec.ofNat 32 d.val) (BitVec.ofNat 32 d.val - 1#32)
      = lower q ((n : ℝ) : EReal) * G (pixel (below q) ((n : ℝ) : EReal)).toNat
        + upper q ((n : ℝ) : EReal) * G (pixel (below q + 1) ((n : ℝ) : EReal)).toNat := by
  unfold weight
  refine window_sum (fun d => G (x + d)) ?_ ?_
  · induction p with
    | bot => rw [hq, EReal.bot_add, lower_bot]; exact Or.inl rfl
    | top => rw [hq, EReal.top_add_coe, lower_top]; exact Or.inl rfl
    | coe r =>
      rw [← EReal.coe_add] at hq
      rw [← EReal.coe_sub, below_coe, pixel_coe _ (by omega), BitVec.toNat_ofNat] at hx
      obtain ⟨h1, h2⟩ := first_bounds hs hs' ho r
      subst hq
      rw [lower_coe, below_coe]
      revert h1 h2 hx
      generalize ⌊r + ((o : ℝ) - 4) * s⌋ = m
      generalize ⌊r - 4 * s⌋ = l
      intro hx h1 h2
      by_cases hm : 0 ≤ m ∧ m ≤ n
      · right
        obtain ⟨k, rfl⟩ := Int.eq_ofNat_of_zero_le hm.1
        refine ⟨k - x, by omega, ?_, ?_⟩
        · rw [fptosi_coe (by omega) (by omega), BitVec.ofInt_natCast]
          exact ofNat_sub (by omega)
        · rw [pixel_coe _ (by omega), BitVec.toNat_ofNat]
          exact congrArg G (by omega)
      · left
        rw [if_neg hm]; rfl
  · induction p with
    | bot => rw [hq, EReal.bot_add, upper_bot]; exact Or.inl rfl
    | top => rw [hq, EReal.top_add_coe, upper_top]; exact Or.inl rfl
    | coe r =>
      rw [← EReal.coe_add] at hq
      rw [← EReal.coe_sub, below_coe, pixel_coe _ (by omega), BitVec.toNat_ofNat] at hx
      obtain ⟨h1, h2⟩ := first_bounds hs hs' ho r
      subst hq
      rw [upper_coe, below_coe, succ_coe]
      revert h1 h2 hx
      generalize ⌊r + ((o : ℝ) - 4) * s⌋ = m
      generalize ⌊r - 4 * s⌋ = l
      intro hx h1 h2
      by_cases hm : 0 ≤ m + 1 ∧ m + 1 ≤ n
      · right
        obtain ⟨k, hk⟩ := Int.eq_ofNat_of_zero_le hm.1
        refine ⟨k - x, by omega, ?_, ?_⟩
        · rw [fptosi_coe (by omega) (by omega), ← ofNat_sub (show x ≤ k by omega), ← BitVec.ofInt_natCast (n := k),
            ← hk, BitVec.ofInt_add, show BitVec.ofInt 32 1 = 1#32 from rfl]
          generalize BitVec.ofInt 32 m = a
          bv_omega
        · rw [pixel_coe _ (by omega), BitVec.toNat_ofNat]
          exact congrArg G (by omega)
      · left
        rw [if_neg hm]; rfl

/-- The bilinear sample at `(px, py)` of an image `G` (row, then column) whose last pixel is `(n, n')`: each of the four
    neighbours, zero outside the image, times its weight. -/
def sample (G : ℕ → ℕ → EReal) (px py n n' : EReal) : EReal :=
  G (pixel (below py) n').toNat (pixel (below px) n).toNat * (inImage (below px) n * inImage (below py) n')
      * ((1 - (px - below px)) * (1 - (py - below py)))
    + G (pixel (below py) n').toNat (pixel (below px + 1) n).toNat * (inImage (below px + 1) n * inImage (below py) n')
      * ((px - below px) * (1 - (py - below py)))
    + G (pixel (below py + 1) n').toNat (pixel (below px) n).toNat * (inImage (below px) n * inImage (below py + 1) n')
      * ((1 - (px - below px)) * (py - below py))
    + G (pixel (below py + 1) n').toNat (pixel (below px + 1) n).toNat * (inImage (below px + 1) n * inImage (below py + 1) n')
      * ((px - below px) * (py - below py))

/-- The sums over the window's rows and columns are the bilinear sample. -/
theorem window_sample (G : ℕ → ℕ → EReal) (p p' : EReal) {s s' : ℝ} (hs : 0 ≤ s ∧ 8 * s < 1) (hs' : 0 ≤ s' ∧ 8 * s' < 1) {n n' : ℕ}
    (hn : 2 ≤ n ∧ n < 2 ^ 20) (hn' : 2 ≤ n' ∧ n' < 2 ^ 20) {o o' : ℕ} (ho : o ≤ 8) (ho' : o' ≤ 8) {q q' : EReal}
    (hq : q = p + (((o : ℝ) - 4) * s : ℝ)) (hq' : q' = p' + (((o' : ℝ) - 4) * s' : ℝ)) {x y : ℕ}
    (hx : x = (pixel (below (p - ((4 * s : ℝ) : EReal))) (((n - 2 : ℕ) : ℝ) : EReal)).toNat)
    (hy : y = (pixel (below (p' - ((4 * s' : ℝ) : EReal))) (((n' - 2 : ℕ) : ℝ) : EReal)).toNat) :
    ∑ d : Fin 3, weight q' ((n' : ℝ) : EReal) (BitVec.ofNat 32 y) (BitVec.ofNat 32 d.val) (BitVec.ofNat 32 d.val - 1#32)
        * ∑ e : Fin 3, G (y + d.val) (x + e.val)
          * weight q ((n : ℝ) : EReal) (BitVec.ofNat 32 x) (BitVec.ofNat 32 e.val) (BitVec.ofNat 32 e.val - 1#32)
      = sample G q q' ((n : ℝ) : EReal) ((n' : ℝ) : EReal) := by
  simp only [fun d : Fin 3 => axis_sum p hs.1 hs.2 hn.1 hn.2 o ho (G (y + d.val)) q hq x hx]
  simp only [mul_comm (weight q' _ _ _ _)]
  rw [axis_sum p' hs'.1 hs'.2 hn'.1 hn'.2 o' ho' (fun r => lower q ((n : ℝ) : EReal) * G r (pixel (below q) ((n : ℝ) : EReal)).toNat
        + upper q ((n : ℝ) : EReal) * G r (pixel (below q + 1) ((n : ℝ) : EReal)).toNat) q' hq' y hy]
  obtain ⟨l0, l1⟩ := lower_nonneg q' n'
  obtain ⟨u0, u1⟩ := upper_nonneg q' n'
  rw [EReal.left_distrib_of_nonneg_of_ne_top l0 l1, EReal.left_distrib_of_nonneg_of_ne_top u0 u1]
  unfold sample lower upper
  rw [← add_assoc]
  congr 1
  · congr 1
    · congr 1 <;> ac_rfl
    · ac_rfl
  · ac_rfl

end Cert.Bilinear
-- ==== Proof.Taps.lean ====
module

public import proofs.«01_k».proof.Proof.Level
public import proofs.«01_k».proof.Proof.Bilinear

/-! # The positions and the weights, read at a lane -/

@[expose] public section

set_option maxRecDepth 16384

noncomputable section

namespace Cert.Blocks

open Idealize.ShloMosaic

theorem inImage_word (a n : EReal) : FloatOps.sitofp (F := Ideal) .f32 (BitVec.setWidth 32
    (IntOp.andi (BitVec.ofBool (decide (0 ≤ a))) (BitVec.ofBool (decide (a ≤ n))))) = Bilinear.inImage a n := by
  show (((BitVec.setWidth 32 (IntOp.andi _ _)).toInt : ℝ) : EReal) = _
  unfold Bilinear.inImage
  by_cases h : 0 ≤ a <;> by_cases h' : a ≤ n <;> simp [h, h', IntOp.andi]

theorem select_eq {α : Type} (a b : BitVec 32) (x y : α) :
    Scalar.select (IntOp.cmpi .eq a b) x y = if a = b then x else y := by
  show (if IntOp.cmpi .eq a b = 1#1 then x else y) = _
  exact if_congr (cmpi_eq_one _ _) rfl rfl

theorem rows72_apply {α : Type} (a : Fin 8 → (V2 9 Q).Idx → α) (e : Fin 8) (o : Fin 9) (q : Fin Q) :
    rows72 a (ix2 ⟨9 * e.val + o.val, by omega⟩ q) = a e (ix2 o q) := by
  unfold rows72
  fin_cases e <;> fin_cases o <;> pointwise <;> rfl

theorem taps_apply (p n : FVec Ideal (V2 72 Q) .f32) (w : IVec (V2 72 Q) 32) (r : Fin 72) (d : Fin 3) (q : Fin Q) :
    taps p n w (ix3 r d q) = tap p n w (BitVec.ofNat 32 d.val) (BitVec.ofNat 32 d.val - 1#32) (ix2 r q) := by
  unfold taps
  fin_cases d <;> pointwise <;> rfl

theorem tap_apply {s : Shape} (p n : FVec Ideal s .f32) (w : IVec s 32) (d d' : BitVec 32) (i : s.Idx) :
    tap p n w d d' i = Bilinear.weight (p i) (n i) (w i) d d' := by
  unfold tap inside
  pointwise
  rw [inImage_word, inImage_word, select_eq, select_eq]
  rfl

theorem start_apply (p : FVec Ideal (V1 Q) .f32) (c n : BitVec 32) (q : Fin Q) :
    start p c n (ix1 q) = Bilinear.pixel (Bilinear.below (p (ix1 q) - Ideal.ofBits .f32 c)) (Ideal.ofBits .f32 n) := by
  unfold start
  pointwise
  rfl

theorem positions_apply (p : FVec Ideal (V1 Q) .f32) (c : BitVec 32) (o : Fin 9) (q : Fin Q) :
    positions p c (ix2 o q) = p (ix1 q) + (((o.val : ℝ) - 4 : ℝ) : EReal) * Ideal.ofBits .f32 c := by
  unfold positions offsets
  pointwise
  have h : (IntOp.subi (BitVec.ofNat 32 o.val) 4#32).toInt = (o.val : ℤ) - 4 := by fin_cases o <;> rfl
  show _ + (((IntOp.subi (BitVec.ofNat 32 o.val) 4#32).toInt : ℝ) : EReal) * _ = _
  rw [h]
  push_cast
  rfl

theorem starts9_apply (w : IVec (V1 Q) 32) (o : Fin 9) (q : Fin Q) : starts9 w (ix2 o q) = w (ix1 q) := by
  unfold starts9
  pointwise

theorem laneRem_apply (q : Fin Q) : laneRem (ix1 q) = BitVec.ofNat 32 (q.val % 64) := by
  have hq : q.val < 2048 := q.isLt
  have h : width = 64#32 := by decide
  unfold laneRem lane
  pointwise [h]
  rw [show (64#32) = BitVec.ofNat 32 64 from rfl, Routing.remsi_word _ (by omega) (by omega) (by omega)]
  exact keep_nonneg (by omega) (by decide) _ _

theorem laneQuot_apply (q : Fin Q) : laneQuot (ix1 q) = BitVec.ofNat 32 (q.val / 64) := by
  have hq : q.val < 2048 := q.isLt
  unfold laneQuot lane
  pointwise
  rw [show (64#32) = BitVec.ofNat 32 64 from rfl, Routing.remsi_word _ (by omega) (by omega) (by omega),
    Routing.divsi_word _ (by omega) (by omega) (by omega)]
  have h : IntOp.cmpi .slt (BitVec.ofNat 32 q.val) 0#32 = 0#1 := by
    show BitVec.ofBool ((BitVec.ofNat 32 q.val).slt 0#32) = 0#1
    have : (BitVec.ofNat 32 q.val).slt 0#32 = false := by
      rw [Bool.eq_false_iff, ne_eq, BitVec.slt_iff_toInt_lt, toInt_small (by omega)]
      simp
    rw [this]; rfl
  rcases Nat.eq_zero_or_pos q.val with h0 | h0
  · rw [h0]; rfl
  · have h1 : IntOp.cmpi .sgt (BitVec.ofNat 32 q.val) 0#32 = 1#1 := by
      show BitVec.ofBool ((0#32).slt (BitVec.ofNat 32 q.val)) = 1#1
      have : (0#32).slt (BitVec.ofNat 32 q.val) = true := by
        rw [BitVec.slt_iff_toInt_lt, toInt_small (k := q.val) (by omega)]
        exact Int.natCast_pos.2 h0
      rw [this]; rfl
    rw [h, h1]
    generalize IntOp.cmpi .ne (BitVec.ofNat 32 (q.val % 64)) 0#32 = b
    rcases BitVec.eq_zero_or_eq_one b with rfl | rfl <;> rfl

/-! ## The constants -/

/-- The scale of the positions of each (axis, level) pair. -/
def scaleR : Fin 8 → ℝ := ![63 / 512, 31 / 512, 15 / 512, 7 / 512, 31 / 256, 15 / 256, 7 / 256, 3 / 256]

/-- The distance of two samples. -/
def stepR : Fin 8 → ℝ := ![63 / 512, 31 / 256, 15 / 128, 7 / 64, 31 / 256, 15 / 128, 7 / 64, 3 / 32]

/-- The last pixel. -/
def lastN : Fin 8 → ℕ := ![63, 31, 15, 7, 31, 15, 7, 3]

theorem scale_real (e : Fin 8) : Ideal.ofBits .f32 (axis e).scale = ((scaleR e : ℝ) : EReal) := by
  fin_cases e <;> simp [axis, scaleR, Ideal.ofBits, Ideal.ieee, -EReal.coe_mul] <;> norm_num

theorem step_real (e : Fin 8) : Ideal.ofBits .f32 (axis e).step = ((stepR e : ℝ) : EReal) := by
  fin_cases e <;> simp [axis, stepR, Ideal.ofBits, Ideal.ieee, -EReal.coe_mul] <;> norm_num

theorem four_real (e : Fin 8) : Ideal.ofBits .f32 (axis e).four = ((4 * stepR e : ℝ) : EReal) := by
  fin_cases e <;> simp [axis, stepR, Ideal.ofBits, Ideal.ieee, -EReal.coe_mul] <;> norm_num

theorem last_real (e : Fin 8) : Ideal.ofBits .f32 (axis e).last = (((lastN e - 2 : ℕ) : ℝ) : EReal) := by
  fin_cases e <;> simp [axis, lastN, Ideal.ofBits, Ideal.ieee, -EReal.coe_mul] <;> norm_num

theorem size_real (e : Fin 8) : Ideal.ofBits .f32 (axis e).size = ((lastN e : ℝ) : EReal) := by
  fin_cases e <;> simp [axis, lastN, Ideal.ofBits, Ideal.ieee, -EReal.coe_mul] <;> norm_num

theorem stepR_bounds (e : Fin 8) : 0 ≤ stepR e ∧ 8 * stepR e < 1 := by
  fin_cases e <;> norm_num [stepR]

theorem lastN_bounds (e : Fin 8) : 2 ≤ lastN e ∧ lastN e < 2 ^ 18 := by
  fin_cases e <;> norm_num [lastN]

/-! ## Weights and starts of an (axis, level) pair -/

/-- The column of a lane for the x pairs, its row for the y pairs. -/
def coord (e : Fin 8) (q : Fin Q) : ℕ := if e.val < 4 then q.val % 64 else q.val / 64

/-- The position of the middle sample, from the flow `f` of its axis. -/
def centre (e : Fin 8) (q : Fin Q) (f : EReal) : EReal := (((coord e q : ℝ) : EReal) + f) * ((scaleR e : ℝ) : EReal)

/-- The position of the sample `o`. -/
def place (e : Fin 8) (q : Fin Q) (f : EReal) (o : ℕ) : EReal := centre e q f + ((((o : ℝ) - 4) * stepR e : ℝ) : EReal)

/-- The first pixel of the window. -/
def first (e : Fin 8) (q : Fin Q) (f : EReal) : ℕ :=
  (Bilinear.pixel (Bilinear.below (centre e q f - ((4 * stepR e : ℝ) : EReal))) (((lastN e - 2 : ℕ) : ℝ) : EReal)).toNat

variable (fx fy : FVec Ideal (V1 Q) .f32)

/-- The flow of a pair's axis at a lane. -/
def flowAt (e : Fin 8) (q : Fin Q) : EReal := if e.val < 4 then fx (ix1 q) else fy (ix1 q)

theorem base_apply (g : IVec (V1 Q) 32) (f : FVec Ideal (V1 Q) .f32) (c : BitVec 32) (q : Fin Q) (k : ℕ) (hk : k < 2 ^ 20)
    (h : g (ix1 q) = BitVec.ofNat 32 k) : base g f c (ix1 q) = (((k : ℝ) : EReal) + f (ix1 q)) * Ideal.ofBits .f32 c := by
  show ((((g (ix1 q)).toInt : ℝ) : EReal) + f (ix1 q)) * Ideal.ofBits .f32 c = _
  rw [h, toInt_small hk]
  push_cast
  rfl

theorem middle_apply (e : Fin 8) (q : Fin Q) : middle fx fy e (ix1 q) = centre e q (flowAt fx fy e q) := by
  have hq : q.val < 2048 := q.isLt
  unfold middle centre flowAt coord
  split
  · rw [base_apply _ _ _ q _ (by omega) (laneRem_apply q), scale_real]
  · rw [base_apply _ _ _ q _ (by omega) (laneQuot_apply q), scale_real]

theorem first_le (e : Fin 8) (q : Fin Q) (f : EReal) : first e q f + 2 ≤ lastN e := by
  have := lastN_bounds e
  have h := Bilinear.pixel_le (Bilinear.below (centre e q f - ((4 * stepR e : ℝ) : EReal))) (n := lastN e - 2) (by omega)
  unfold first
  omega

theorem windowStart_apply (e : Fin 8) (q : Fin Q) :
    windowStart fx fy e (ix1 q) = BitVec.ofNat 32 (first e q (flowAt fx fy e q)) := by
  unfold windowStart first
  rw [start_apply, middle_apply, four_real, last_real, BitVec.ofNat_toNat, BitVec.setWidth_eq]

/-- The weight of the pixel `d` of the window. -/
theorem tapsOf_apply (e : Fin 8) (o : Fin 9) (d : Fin 3) (q : Fin Q) :
    tapsOf fx fy e (ix3 o d q) = Bilinear.weight (place e q (flowAt fx fy e q) o.val) ((lastN e : ℝ) : EReal)
      (BitVec.ofNat 32 (first e q (flowAt fx fy e q))) (BitVec.ofNat 32 d.val) (BitVec.ofNat 32 d.val - 1#32) := by
  have h : tapsOf fx fy e (ix3 o d q) = allTaps fx fy (ix3 ⟨9 * e.val + o.val, by omega⟩ d q) := by
    unfold tapsOf
    pointwise
  rw [h]
  unfold allTaps
  rw [taps_apply, tap_apply, rows72_apply, rows72_apply, rows72_apply, positions_apply, starts9_apply, windowStart_apply,
    middle_apply, step_real]
  show Bilinear.weight _ (Ideal.ofBits .f32 (axis e).size) _ _ _ = _
  rw [size_real]
  unfold place
  rw [EReal.coe_mul]

/-- A volume read at naturals, zero outside it. -/
def readVol {h w : Nat} (vol : FVec Ideal (V3 h w Q) .bf16) (q : Fin Q) (y x : ℕ) : EReal :=
  if hyx : y < h ∧ x < w then vol (ix3 ⟨y, hyx.1⟩ ⟨x, hyx.2⟩ q) else 0

/-- A level's result is the bilinear sample of its volume. -/
theorem levelOf_sample {h w : Nat} (vol : FVec Ideal (V3 h w Q) .bf16) (k : Fin 4) (hh : h = lastN ⟨4 + k.val, by omega⟩ + 1)
    (hw : w = lastN ⟨k.val, by omega⟩ + 1) (o : Fin 41) (q : Fin Q) :
    levelOf vol fx fy k (ix2 o q) = Bilinear.sample (readVol vol q) (place ⟨k.val, by omega⟩ q (fx (ix1 q)) (colAt o).val)
      (place ⟨4 + k.val, by omega⟩ q (fy (ix1 q)) (rowAt o).val) ((lastN ⟨k.val, by omega⟩ : ℝ) : EReal)
      ((lastN ⟨4 + k.val, by omega⟩ : ℝ) : EReal) := by
  have fX : flowAt fx fy ⟨k.val, by omega⟩ q = fx (ix1 q) := if_pos k.isLt
  have fY : flowAt fx fy ⟨4 + k.val, by omega⟩ q = fy (ix1 q) := if_neg (by simp)
  have bx := first_le ⟨k.val, by omega⟩ q (fx (ix1 q))
  have b_y := first_le ⟨4 + k.val, by omega⟩ q (fy (ix1 q))
  have nx := lastN_bounds ⟨k.val, by omega⟩
  have ny := lastN_bounds ⟨4 + k.val, by omega⟩
  have ex := windowStart_apply fx fy ⟨k.val, by omega⟩ q
  have ey := windowStart_apply fx fy ⟨4 + k.val, by omega⟩ q
  rw [fX] at ex
  rw [fY] at ey
  rw [levelOf_apply vol q (by omega) (by omega) fx fy k _ _ (by omega) (by omega) ey ex o]
  simp only [tapsOf_apply, fX, fY]
  refine Eq.trans ?_ (Bilinear.window_sample (readVol vol q) (centre ⟨k.val, by omega⟩ q (fx (ix1 q)))
    (centre ⟨4 + k.val, by omega⟩ q (fy (ix1 q))) (stepR_bounds _) (stepR_bounds _) ⟨nx.1, by omega⟩ ⟨ny.1, by omega⟩
    (o := (colAt o).val) (o' := (rowAt o).val) (by omega) (by omega) rfl rfl rfl rfl)
  refine Finset.sum_congr rfl fun d _ => congrArg _ (Finset.sum_congr rfl fun e _ => congrArg (· * _) ?_)
  have hd := d.isLt
  have he := e.isLt
  show _ = readVol vol q (first ⟨4 + k.val, by omega⟩ q (fy (ix1 q)) + d.val) (first ⟨k.val, by omega⟩ q (fx (ix1 q)) + e.val)
  rw [readVol, dif_pos ⟨by omega, by omega⟩]

end Cert.Blocks
-- ==== Proof.Spec.lean ====
module

public import proofs.«01_k».proof.Proof.Taps

/-! # What both programs compute

One entry of the result: the correlation volume of the two feature maps, averaged down `k` times by two in each
direction, sampled bilinearly at a place that the pixel, its flow and the tap `o` decide. -/

@[expose] public section

noncomputable section

namespace Cert.Spec

open Idealize.ShloMosaic Cert.Blocks

/-- The mean of four neighbouring pixels. -/
def mean4 (v : ℕ → ℕ → EReal) (y x : ℕ) : EReal :=
  (v (2 * y) (2 * x) + v (2 * y) (2 * x + 1) + v (2 * y + 1) (2 * x) + v (2 * y + 1) (2 * x + 1)) * ((1 / 4 : ℝ) : EReal)

/-- The levels of the pyramid. -/
def pyramid (v : ℕ → ℕ → EReal) : ℕ → ℕ → ℕ → EReal
  | 0 => v
  | k + 1 => mean4 (pyramid v k)

/-- The correlation of pixel `(i, j)` of the first map with pixel `(y, x)` of the second; zero outside the map. -/
def corr (f1 f2 : FVec Ideal ⟨4, ![4, 256, 32, 64]⟩ .f32) (b : Fin 4) (i : Fin 32) (j : Fin 64) (y x : ℕ) : EReal :=
  if h : y < 32 ∧ x < 64 then
    (∑ c : Fin 256, f1 (ix4 b c i j) * f2 (ix4 b c ⟨y, h.1⟩ ⟨x, h.2⟩)) * ((1 / 16 : ℝ) : EReal) else 0

/-- The entry of the result at batch `b`, tap `o`, level `k`, pixel `(i, j)`. -/
def entry (f1 f2 : FVec Ideal ⟨4, ![4, 256, 32, 64]⟩ .f32) (fl : FVec Ideal ⟨3, ![2, 32, 64]⟩ .f32)
    (b : Fin 4) (o : Fin 41) (k : Fin 4) (i : Fin 32) (j : Fin 64) : EReal :=
  Bilinear.sample (pyramid (corr f1 f2 b i j) k.val)
    (place ⟨k.val, by omega⟩ ⟨64 * i.val + j.val, by show _ < 2048; omega⟩ (fl (ix3 1 i j)) (colAt o).val)
    (place ⟨4 + k.val, by omega⟩ ⟨64 * i.val + j.val, by show _ < 2048; omega⟩ (fl (ix3 0 i j)) (rowAt o).val)
    ((lastN ⟨k.val, by omega⟩ : ℝ) : EReal) ((lastN ⟨4 + k.val, by omega⟩ : ℝ) : EReal)

end Cert.Spec
-- ==== Proof.Link.lean ====
module

public import proofs.«01_k».proof.Proof.Weights
public import proofs.«01_k».proof.Proof.Gen.KernelIdeal.Frame

/-! # What the kernel stores, as the building blocks -/

@[expose] public section

set_option maxRecDepth 16384

noncomputable section

namespace Cert.Link

open Idealize.ShloMosaic Cert.KernelIdeal Cert.KernelIdeal.Gen Cert.Blocks

variable {F : FTy → Type} [FloatOps F]

/-- The volume of a batch: the inner products of the two images' feature vectors, a sixteenth of each. -/
def volume (f2 : FVec F S1x2048x256 .bf16) (f1 : FVec F S1x256x2048 .bf16) : FVec F S32x64x2048 .bf16 := k0_pay60 f2 f1

/-- A row of the flow as a vector. -/
def flowRow (f : FVec F S1x2048 .f32) : FVec F S2048 .f32 := shapeCast S2048 f (by decide)

/-- The kernel's result: the four batches' results, each stored at its place. -/
theorem out (x0 : Vec F S4x2048x256 .bf16) (x1 : Vec F S4x256x2048 .bf16) (x2 : Vec F S2x2048 .f32) :
    out0_3 x0 x1 x2 =
      let piece a b := batchOf (volume a b) (flowRow (View.ld x2 r0_1)) (flowRow (View.ld x2 r0_0))
      View.canon [⟨r0_13, piece (View.ld x0 r0_11) (View.ld x1 r0_12)⟩, ⟨r0_10, piece (View.ld x0 r0_8) (View.ld x1 r0_9)⟩,
        ⟨r0_7, piece (View.ld x0 r0_5) (View.ld x1 r0_6)⟩, ⟨r0_4, piece (View.ld x0 r0_2) (View.ld x1 r0_3)⟩] := rfl

end Cert.Link
-- ==== Proof.Batch.lean ====
module

public import proofs.«01_k».proof.Proof.Spec
public import proofs.«01_k».proof.Proof.Link
public import Idealize.ShloMosaic.Lib.Pipeline.ValueKit.Tiles

/-! # The kernel's result, read at an index -/

@[expose] public section

set_option maxRecDepth 16384

noncomputable section

namespace Cert.Batch

open Idealize.ShloMosaic Cert.KernelIdeal Cert.KernelIdeal.Gen Cert.Blocks Cert.Link Cert.Spec

/-- The kernel's correlation volume at an index. -/
theorem volume_apply (a : FVec Ideal S1x2048x256 .bf16) (b : FVec Ideal S1x256x2048 .bf16) (y : Fin 32) (x : Fin 64) (q : Fin 2048) :
    volume a b (ix3 y x q) = (∑ c : Fin 256, a (ix3 0 ⟨64 * y.val + x.val, by omega⟩ c) * b (ix3 0 c q)) * ((1 / 16 : ℝ) : EReal) := by
  have h : Ideal.ofBits .f32 0x3D800000#32 = ((1 / 16 : ℝ) : EReal) := by
    simp [Ideal.ofBits, Ideal.ieee, -EReal.coe_mul]; norm_num
  unfold volume k0_pay60
  pointwise [h, Nat.mul_comm]

/-- A row of the flow at a pixel. -/
theorem flowRow_apply (f : FVec Ideal S1x2048 .f32) (q : Fin 2048) : flowRow f (ix1 q) = f (ix2 0 q) := by
  unfold flowRow
  pointwise

/-- A pooled volume reads as the mean of four. -/
theorem readVol_pool {h w : Nat} (vol : FVec Ideal (V3 (2 * h) (2 * w) Q) .bf16) (q : Fin Q) :
    readVol (pool vol) q = mean4 (readVol vol q) := by
  have e : Ideal.ofBits .bf16 0x3E80#16 = ((1 / 4 : ℝ) : EReal) := by
    simp [Ideal.ofBits, Ideal.ieee, -EReal.coe_mul]; norm_num
  funext y x
  unfold mean4 readVol
  by_cases hyx : y < h ∧ x < w
  · rw [dif_pos hyx, pool_apply, e, dif_pos ⟨by omega, by omega⟩, dif_pos ⟨by omega, by omega⟩, dif_pos ⟨by omega, by omega⟩,
      dif_pos ⟨by omega, by omega⟩]
  · rw [dif_neg hyx, dif_neg (by omega), dif_neg (by omega), dif_neg (by omega), dif_neg (by omega)]
    simp

/-- What the kernel computes of a batch, at an index. -/
theorem batchOf_apply (vol : FVec Ideal (V3 32 64 Q) .bf16) (fx fy : FVec Ideal (V1 Q) .f32) (o : Fin 41) (k : Fin 4) (q : Fin Q) :
    batchOf vol fx fy (ix4 0 o k q) = Bilinear.sample (pyramid (readVol vol q) k.val)
      (place ⟨k.val, by omega⟩ q (fx (ix1 q)) (colAt o).val)
      (place ⟨4 + k.val, by omega⟩ q (fy (ix1 q)) (rowAt o).val) ((lastN ⟨k.val, by omega⟩ : ℝ) : EReal)
      ((lastN ⟨4 + k.val, by omega⟩ : ℝ) : EReal) := by
  unfold batchOf
  fin_cases k
  · exact (stack4_apply ![_, _, _, _] o 0 q).trans (levelOf_sample fx fy vol 0 rfl rfl o q)
  · refine (stack4_apply ![_, _, _, _] o 1 q).trans ((levelOf_sample fx fy _ 1 rfl rfl o q).trans ?_)
    exact congrArg (fun v => Bilinear.sample v _ _ _ _) (readVol_pool (h := 16) (w := 32) vol q)
  · refine (stack4_apply ![_, _, _, _] o 2 q).trans ((levelOf_sample fx fy _ 2 rfl rfl o q).trans ?_)
    exact congrArg (fun v => Bilinear.sample v _ _ _ _) ((readVol_pool (h := 8) (w := 16) _ q).trans
      (congrArg mean4 (readVol_pool (h := 16) (w := 32) vol q)))
  · refine (stack4_apply ![_, _, _, _] o 3 q).trans ((levelOf_sample fx fy _ 3 rfl rfl o q).trans ?_)
    exact congrArg (fun v => Bilinear.sample v _ _ _ _) ((readVol_pool (h := 4) (w := 8) _ q).trans
      (congrArg mean4 ((readVol_pool (h := 8) (w := 16) _ q).trans
        (congrArg mean4 (readVol_pool (h := 16) (w := 32) vol q)))))

/-- The correlation of pixel `q` of the first image with pixel `(y, x)` of the second. -/
def corr (x0 : Vec Ideal S4x2048x256 .bf16) (x1 : Vec Ideal S4x256x2048 .bf16) (b : Fin 4) (q : Fin 2048) (y x : ℕ) : EReal :=
  if h : y < 32 ∧ x < 64 then
    (∑ c : Fin 256, x0 (ix3 b ⟨64 * y + x, by omega⟩ c) * x1 (ix3 b c q)) * ((1 / 16 : ℝ) : EReal) else 0

/-- The kernel's formula for one entry of the result. -/
def entry (x0 : Vec Ideal S4x2048x256 .bf16) (x1 : Vec Ideal S4x256x2048 .bf16) (x2 : Vec Ideal S2x2048 .f32)
    (b : Fin 4) (o : Fin 41) (k : Fin 4) (q : Fin 2048) : EReal :=
  Bilinear.sample (pyramid (corr x0 x1 b q) k.val)
    (place ⟨k.val, by omega⟩ q (x2 (ix2 1 q)) (colAt o).val)
    (place ⟨4 + k.val, by omega⟩ q (x2 (ix2 0 q)) (rowAt o).val) ((lastN ⟨k.val, by omega⟩ : ℝ) : EReal)
    ((lastN ⟨4 + k.val, by omega⟩ : ℝ) : EReal)

/-- One batch of the result, from one batch of each input. -/
theorem piece_apply (x0 : Vec Ideal S4x2048x256 .bf16) (x1 : Vec Ideal S4x256x2048 .bf16) (x2 : Vec Ideal S2x2048 .f32)
    (b : Fin 4) (u : FVec Ideal S1x2048x256 .bf16) (v : FVec Ideal S1x256x2048 .bf16) (gx gy : FVec Ideal S1x2048 .f32)
    (hu : ∀ p c, u (ix3 0 p c) = x0 (ix3 b p c)) (hv : ∀ c q, v (ix3 0 c q) = x1 (ix3 b c q))
    (hx : ∀ q, gx (ix2 0 q) = x2 (ix2 1 q)) (hy : ∀ q, gy (ix2 0 q) = x2 (ix2 0 q))
    (o : Fin 41) (k : Fin 4) (q : Fin 2048) :
    batchOf (volume u v) (flowRow gx) (flowRow gy) (ix4 0 o k q) = entry x0 x1 x2 b o k q := by
  have hc : readVol (volume u v) q = corr x0 x1 b q := by
    funext y x
    unfold readVol corr
    by_cases h : y < 32 ∧ x < 64
    · rw [dif_pos h, dif_pos h, volume_apply]
      simp only [hu, hv]
    · rw [dif_neg h, dif_neg h]
  rw [batchOf_apply, hc, flowRow_apply, flowRow_apply, hx, hy]
  rfl

/-- The body's stored block at an index. -/
theorem out_apply (x0 : Vec Ideal S4x2048x256 .bf16) (x1 : Vec Ideal S4x256x2048 .bf16) (x2 : Vec Ideal S2x2048 .f32)
    (b : Fin 4) (o : Fin 41) (k : Fin 4) (q : Fin 2048) :
    out0_3 x0 x1 x2 (ix4 b o k q) = entry x0 x1 x2 b o k q := by
  rw [out]
  canon_tiles x hx
  all_goals
    obtain ⟨z, o', k', q', rfl⟩ : ∃ z o' k' q', x = ix4 z o' k' q' := ⟨_, _, _, _, eq_ix4 x⟩
    obtain rfl : z = 0 := Subsingleton.elim _ _
    simp only [ix4_0, ix4_1, ix4_2, ix4_3] at *
    obtain rfl : o' = o := Fin.ext (by omega)
    obtain rfl : k' = k := Fin.ext (by omega)
    obtain rfl : q' = q := Fin.ext (by omega)
    refine piece_apply x0 x1 x2 b _ _ _ _ ?_ ?_ ?_ ?_ _ _ _
  all_goals
    intros
    refine View.ld_unit_apply_of _ _ _ _ _ _ (fun a => ?_)
    fin_cases a <;> simp <;> omega

end Cert.Batch
-- ==== Proof.Array.lean ====
module

public import proofs.«01_k».proof.Proof.Batch
public import proofs.«01_k».proof.Proof.Gen.KernelIdeal.Value
public import Idealize.ShloMosaic.Lib.Pipeline.ValueKit.Geometry

/-! # The kernel's result array, from its arguments -/

@[expose] public section

set_option maxRecDepth 16384

noncomputable section

namespace Cert.Array

open Idealize.ShloMosaic Idealize.ShloMosaic.TcCoe Idealize.ShloMosaic.Tactic Cert.KernelIdeal Cert.KernelIdeal.Gen Cert.Blocks Cert.Link Cert.Batch

variable (m : (l : Loc nD τ sig) → Buf (Elt Idealize.ShloMosaic.Ideal) l)

/-- The one point of the grid. -/
def pt : Fin cfg0.N := ⟨0, by decide⟩

/-- The first window is the whole second feature map, transposed. -/
theorem block0 (c : Dev nD) : iblk m c 0 pt = V m c main_v4 := by
  funext i
  blk_simp [iblk]
  congr 1
  blk_ext [show win0_0.index pt = ![0, 0, 0] from by decide +kernel]
/-- The second window is the whole first feature map. -/
theorem block1 (c : Dev nD) : iblk m c 1 pt = V m c main_v1 := by
  funext i
  blk_simp [iblk]
  congr 1
  blk_ext [show win0_1.index pt = ![0, 0, 0] from by decide +kernel]
/-- The third window is the whole flow. -/
theorem block2 (c : Dev nD) : iblk m c 2 pt = V m c main_v5 := by
  funext i
  blk_simp [iblk]
  congr 1
  blk_ext [show win0_2.index pt = ![0, 0] from by decide +kernel]

/-- The result's array after the launch is what the body stored at its one point. -/
theorem array_eq (c : Dev nD) : (dats m 0 c).arrAt 3 cfg0.N = out0_3 (V m c main_v4) (V m c main_v1) (V m c main_v5) := by
  refine (dats m 0 c).arrAt_eq_of_after_last 3 pt (by decide +kernel) _ fun j => ?_
  rw [after0_3, block0, block1, block2]
  blk_simp

/-- The arguments as launched. -/
abbrev feat1 (c : Dev nD) : FVec Ideal S4x256x32x64 .f32 := m (c.tc.loc main_arg0)
abbrev feat2 (c : Dev nD) : FVec Ideal S4x256x32x64 .f32 := m (c.tc.loc main_arg1)
abbrev flow (c : Dev nD) : FVec Ideal S2x32x64 .f32 := m (c.tc.loc main_arg2)

/-- What the host hands the launch for the flow. -/
theorem V_v5 (c : Dev nD) : @Eq (FVec Ideal S2x2048 .f32) (V m c main_v5) (shapeCast S2x2048 (flow m c) shapeCasts_S2x32x64_S2x2048) := by
  show StableHlo.after hostOps0 _ _ = _
  unfold hostOps0
  after_results_simp
  rfl

/-- What the host hands the launch for the first feature map. -/
theorem V_v1 (c : Dev nD) : @Eq (FVec Ideal S4x256x2048 .bf16) (V m c main_v1)
    (truncf .bf16 (shapeCast S4x256x2048 (feat1 m c) shapeCasts_S4x256x32x64_S4x256x2048) bitsLt_bf16_f32) := by
  show StableHlo.after hostOps0 _ _ = _
  unfold hostOps0
  after_results_simp
  rfl

/-- What the host hands the launch for the second feature map. -/
theorem V_v4 (c : Dev nD) : @Eq (FVec Ideal S4x2048x256 .bf16) (V m c main_v4) (truncf .bf16 (transpose S4x2048x256 [0, 2, 1]
    (shapeCast S4x256x2048 (feat2 m c) shapeCasts_S4x256x32x64_S4x256x2048) transposes_S4x256x2048_S4x2048x256_0_2_1) bitsLt_bf16_f32) := by
  show StableHlo.after hostOps0 _ _ = _
  unfold hostOps0
  after_results_simp
  rfl

/-- The flow, flattened. -/
theorem v5_apply (c : Dev nD) (r : Fin 2) (i : Fin 32) (j : Fin 64) :
    @Eq EReal ((V m c main_v5 : FVec Ideal S2x2048 .f32) (ix2 r ⟨64 * i.val + j.val, by omega⟩)) (flow m c (ix3 r i j)) := by
  rw [V_v5]
  pointwise

/-- The first feature map, flattened. -/
theorem v1_apply (c : Dev nD) (b : Fin 4) (k : Fin 256) (i : Fin 32) (j : Fin 64) :
    @Eq EReal ((V m c main_v1 : FVec Ideal S4x256x2048 .bf16) (ix3 b k ⟨64 * i.val + j.val, by omega⟩)) (feat1 m c (ix4 b k i j)) := by
  rw [V_v1]
  pointwise

/-- The second feature map, flattened and transposed. -/
theorem v4_apply (c : Dev nD) (b : Fin 4) (k : Fin 256) (i : Fin 32) (j : Fin 64) :
    @Eq EReal ((V m c main_v4 : FVec Ideal S4x2048x256 .bf16) (ix3 b ⟨64 * i.val + j.val, by omega⟩ k)) (feat2 m c (ix4 b k i j)) := by
  rw [V_v4]
  pointwise

/-- The kernel's result array at an index, from the arguments as launched. -/
theorem array_apply (c : Dev nD) (b : Fin 4) (o : Fin 41) (k : Fin 4) (i : Fin 32) (j : Fin 64) :
    @Eq EReal ((dats m 0 c).arrAt 3 cfg0.N (ix4 b o k ⟨64 * i.val + j.val, by omega⟩))
      (Spec.entry (feat1 m c) (feat2 m c) (flow m c) b o k i j) := by
  rw [array_eq, out_apply]
  unfold entry Spec.entry
  rw [v5_apply, v5_apply]
  refine congrArg (fun v => Bilinear.sample (Spec.pyramid v k.val) _ _ _ _) ?_
  funext y x
  unfold corr Spec.corr
  by_cases h : y < 32 ∧ x < 64
  · rw [dif_pos h, dif_pos h]
    refine congrArg (· * _) (Finset.sum_congr rfl fun d _ => ?_)
    rw [v1_apply, mul_comm]
    exact congrArg (_ * ·) (v4_apply m c b d ⟨y, h.1⟩ ⟨x, h.2⟩)
  · rw [dif_neg h, dif_neg h]

end Cert.Array
-- ==== Proof.Lookup.lean ====
module

public import proofs.«01_k».proof.Proof.Spec
public import Idealize.ShloMosaic.Lib.ValueIdxCore

/-! # The reference's lookup at one level, at any size of the map -/

@[expose] public section

set_option maxRecDepth 16384

noncomputable section

namespace Cert.Lookup

open Idealize.ShloMosaic Cert.Blocks

/-- Scalars, rows of pixels, pixels by taps. -/
abbrev S0 : Shape := ⟨0, ![]⟩
abbrev SPix : Shape := ⟨3, ![32, 64, 1]⟩
abbrev STap : Shape := ⟨3, ![32, 64, 41]⟩
abbrev SRes : Shape := ⟨4, ![4, 32, 64, 41]⟩
abbrev SVol (h w : Nat) : Shape := ⟨5, ![4, 32, 64, h, w]⟩

/-- How the lookup gathers from a volume: one pixel for every batch at once. -/
abbrev GatherOk (h w : Nat) : Prop :=
  GatherDims.WF (SVol h w) ⟨4, ![32, 64, 41, 4]⟩ SRes [0] [1, 2, 3, 4] [] [1, 2, 3, 4] [] 3 ![4, 1, 1, 1, 1]

abbrev dims (h w : Nat) (wf : GatherOk h w) : GatherDims (SVol h w) ⟨4, ![32, 64, 41, 4]⟩ SRes where
  offsetDims := [0]
  collapsedSliceDims := [1, 2, 3, 4]
  operandBatchingDims := []
  startIndicesBatchingDims := []
  startIndexMap := [1, 2, 3, 4]
  indexVectorDim := 3
  sliceSizes := ![4, 1, 1, 1, 1]
  wf := wf

/-- The element a gather reads along an indexed axis. -/
theorem gather_start {h w : Nat} (wf : GatherOk h w) (idx : IVec ⟨4, ![32, 64, 41, 4]⟩ 32) (y : SRes.Idx) (a : Fin 4) :
    (dims h w wf).start y idx a.succ + (dims h w wf).batchCoord y a.succ + (dims h w wf).offCoord y a.succ
      = min (idx (ix4 (y 1) (y 2) (y 3) a)).toInt.toNat ((SVol h w).size a.succ - 1) := by
  have hm : a.succ ∈ (dims h w wf).startIndexMap := by fin_cases a <;> simp
  have hc : a.succ ∈ (dims h w wf).collapsedSliceDims := by fin_cases a <;> simp
  rw [GatherDims.batchCoord_eq_zero _ _ _ List.not_mem_nil,
    GatherDims.offCoord_eq_zero _ _ _ (fun h => ((GatherDims.mem_sKept _ _).mp h).1 hc)]
  simp only [Nat.add_zero]
  unfold GatherDims.start
  rw [dif_pos hm]
  have hsi : (dims h w wf).siIdx y ⟨List.idxOf a.succ (dims h w wf).startIndexMap, List.idxOf_lt_length_iff.2 hm⟩
      = ix4 (y 1) (y 2) (y 3) a := by
    funext b; refine Fin.ext ?_
    match b with
    | ⟨0, _⟩ => rfl
    | ⟨1, _⟩ => rfl
    | ⟨2, _⟩ => rfl
    | ⟨3, _⟩ => fin_cases a <;> rfl
  rw [hsi]
  have hs : (dims h w wf).sliceSizes a.succ = 1 := by fin_cases a <;> rfl
  rw [hs]
  rfl

/-- The gather at an index, when every start index is inside the volume. -/
theorem gather_apply {h w : Nat} {α : Type} (wf : GatherOk h w) (x : (SVol h w).Idx → α) (idx : IVec ⟨4, ![32, 64, 41, 4]⟩ 32)
    (b : Fin 4) (i : Fin 32) (j : Fin 64) (o : Fin 41) (y : Fin h) (z : Fin w)
    (h0 : (idx (ix4 i j o 0)).toInt.toNat = i.val) (h1 : (idx (ix4 i j o 1)).toInt.toNat = j.val)
    (h2 : (idx (ix4 i j o 2)).toInt.toNat = y.val) (h3 : (idx (ix4 i j o 3)).toInt.toNat = z.val) :
    Host.gather (dims h w wf) x idx (ix4 b i j o) = x (ix5 b i j y z) := by
  unfold Host.gather
  congr 1
  funext a
  refine Fin.ext ?_
  show (dims h w wf).start _ idx a + (dims h w wf).batchCoord _ a + (dims h w wf).offCoord _ a = _
  match a with
  | ⟨0, _⟩ =>
    rw [GatherDims.batchCoord_eq_zero _ _ _ List.not_mem_nil]
    have hs : (dims h w wf).start (ix4 b i j o) idx ⟨0, by show 0 < 5; omega⟩ = 0 := by
      unfold GatherDims.start
      exact dif_neg (by simp)
    rw [hs, Nat.zero_add]
    rfl
  | ⟨1, _⟩ =>
    refine (gather_start wf idx _ 0).trans ?_
    show min (idx (ix4 i j o 0)).toInt.toNat (32 - 1) = i.val
    omega
  | ⟨2, _⟩ =>
    refine (gather_start wf idx _ 1).trans ?_
    show min (idx (ix4 i j o 1)).toInt.toNat (64 - 1) = j.val
    omega
  | ⟨3, _⟩ =>
    refine (gather_start wf idx _ 2).trans ?_
    show min (idx (ix4 i j o 2)).toInt.toNat (h - 1) = y.val
    omega
  | ⟨4, _⟩ =>
    refine (gather_start wf idx _ 3).trans ?_
    show min (idx (ix4 i j o 3)).toInt.toNat (w - 1) = z.val
    omega

/-- A number at every pixel and tap. -/
def splat (c : BitVec 32) : FVec Ideal STap .f32 := broadcastInDim STap ![] (by decide) (constant S0 .f32 c)

/-- A whole number at every pixel and tap, as a float. -/
def splatInt (c : BitVec 32) : FVec Ideal STap .f32 := broadcastInDim STap ![] (by decide) (sitofp .f32 (constantI S0 32 c))

/-- A value of every pixel and tap, at every batch. -/
def spread (v : FVec Ideal STap .f32) : FVec Ideal SRes .f32 :=
  broadcastInDim SRes ![0, 1, 2, 3] (by decide) (broadcastInDim ⟨4, ![1, 32, 64, 41]⟩ ![1, 2, 3] (by decide) v)

/-- The row and the column of a pixel. -/
def rowNo : IVec STap 32 :=
  broadcastInDim STap ![0, 1, 2] (by decide) (broadcastInDim ⟨3, ![32, 1, 1]⟩ ![0] (by decide) (iotaInDim ⟨1, ![32]⟩ 32 0))
def colNo : IVec STap 32 :=
  broadcastInDim STap ![0, 1, 2] (by decide) (broadcastInDim ⟨3, ![1, 64, 1]⟩ ![1] (by decide) (iotaInDim ⟨1, ![64]⟩ 32 0))

/-- An index as one column of the start indices. -/
def column (v : IVec STap 32) : IVec ⟨4, ![32, 64, 41, 1]⟩ 32 := broadcastInDim _ ![0, 1, 2] (by decide) v

/-- The nearest pixel of the map. -/
def clipped (x : FVec Ideal STap .f32) (c : BitVec 32) : IVec STap 32 :=
  fptosi 32 (minimumf (splatInt c) (maximumf (splatInt 0#32) x))

/-- One corner of the bilinear sample: the volume at the pixel, masked to the map, weighted. -/
def corner {h w : Nat} (wf : GatherOk h w) (vol : FVec Ideal (SVol h w) .f32) (xi yi wgt : FVec Ideal STap .f32)
    (n n' c c' : BitVec 32) : FVec Ideal SRes .f32 :=
  mulf (mulf (Host.gather (dims h w wf) vol (concatenate ⟨4, ![32, 64, 41, 4]⟩ 3 [⟨_, column rowNo⟩, ⟨_, column colNo⟩,
      ⟨_, column (clipped yi c')⟩, ⟨_, column (clipped xi c)⟩]
      (by decide : Shape.Concatenates [⟨4, ![32, 64, 41, 1]⟩, ⟨4, ![32, 64, 41, 1]⟩, ⟨4, ![32, 64, 41, 1]⟩, ⟨4, ![32, 64, 41, 1]⟩]
        ⟨4, ![32, 64, 41, 4]⟩ 3)))
    (spread (uitofp .f32 (andi (andi (andi (cmpf .oge xi (splat 0x00000000#32)) (cmpf .ole xi (splat n)))
      (cmpf .oge yi (splat 0x00000000#32))) (cmpf .ole yi (splat n'))))))
    (spread wgt)

/-- The word of a validity test, as a number. -/
theorem valid_word (a n b m : EReal) : FloatOps.uitofp (F := Ideal) .f32
    (IntOp.andi (IntOp.andi (IntOp.andi (BitVec.ofBool (decide (0 ≤ a))) (BitVec.ofBool (decide (a ≤ n))))
      (BitVec.ofBool (decide (0 ≤ b)))) (BitVec.ofBool (decide (b ≤ m)))) = Bilinear.inImage a n * Bilinear.inImage b m := by
  show (((IntOp.andi _ _).toNat : ℝ) : EReal) = _
  unfold Bilinear.inImage
  by_cases h : 0 ≤ a <;> by_cases h' : a ≤ n <;> by_cases k : 0 ≤ b <;> by_cases k' : b ≤ m <;> simp [h, h', k, k', IntOp.andi]

/-- The clipped position, as an integer. -/
theorem clip_word (a : EReal) (c : BitVec 32) {N : ℕ} (hc : c.toInt = N) :
    FloatOps.fptosi (F := Ideal) (φ := .f32) 32 (min (FloatOps.sitofp (F := Ideal) .f32 c)
      (max (FloatOps.sitofp (F := Ideal) .f32 0#32) a)) = Bilinear.pixel a ((N : ℝ) : EReal) := by
  show Ideal.fptosi 32 (min (((c.toInt : ℝ)) : EReal) (max ((((0#32 : BitVec 32).toInt : ℝ)) : EReal) a)) = _
  rw [hc]
  simp [Bilinear.pixel]

/-- A small natural number read from its word. -/
theorem toInt_of_le {v : BitVec 32} {N : ℕ} (hN : N < 2 ^ 20) (h : v.toNat ≤ N) : v.toInt.toNat = v.toNat := by
  rw [BitVec.toInt_eq_toNat_of_lt (by omega)]
  rfl

/-- A corner of the bilinear sample: the pixel it reads, times its validity and its weight. -/
theorem corner_apply {h w : Nat} (wf : GatherOk h w) (vol : FVec Ideal (SVol h w) .f32) (xi yi wgt : FVec Ideal STap .f32)
    (n n' c c' : BitVec 32) {N N' : Nat} (hw : w = N + 1) (hh : h = N' + 1) (hN : N < 2 ^ 20) (hN' : N' < 2 ^ 20)
    (hn : Ideal.ofBits .f32 n = ((N : ℝ) : EReal)) (hn' : Ideal.ofBits .f32 n' = ((N' : ℝ) : EReal))
    (hc : c.toInt = N) (hc' : c'.toInt = N') (b : Fin 4) (i : Fin 32) (j : Fin 64) (o : Fin 41)
    (hx : (Bilinear.pixel (xi (ix3 i j o)) ((N : ℝ) : EReal)).toNat < w)
    (hy : (Bilinear.pixel (yi (ix3 i j o)) ((N' : ℝ) : EReal)).toNat < h) :
    corner wf vol xi yi wgt n n' c c' (ix4 b i j o)
      = vol (ix5 b i j ⟨_, hy⟩ ⟨_, hx⟩) * (Bilinear.inImage (xi (ix3 i j o)) ((N : ℝ) : EReal)
          * Bilinear.inImage (yi (ix3 i j o)) ((N' : ℝ) : EReal)) * wgt (ix3 i j o) := by
  have hz : Ideal.ofBits .f32 0x00000000#32 = 0 := by
    simp [Ideal.ofBits, Ideal.ieee, -EReal.coe_mul]
  have hg := fun (x : FVec Ideal (SVol h w) .f32) (idx : IVec ⟨4, ![32, 64, 41, 4]⟩ 32) => gather_apply wf x idx b i j o ⟨_, hy⟩ ⟨_, hx⟩
  unfold corner
  rw [show ∀ (p q : FVec Ideal SRes .f32) (s : SRes.Idx), mulf p q s = p s * q s from fun _ _ _ => rfl,
    show ∀ (p q : FVec Ideal SRes .f32) (s : SRes.Idx), mulf p q s = p s * q s from fun _ _ _ => rfl, hg]
  · refine congrArg₂ (· * ·) (congrArg₂ (· * ·) rfl ?_) ?_
    · unfold spread splat
      pointwise [hz, hn, hn']
      exact valid_word _ _ _ _
    · unfold spread
      pointwise
  all_goals
    unfold column rowNo colNo clipped splatInt
    pointwise
  · exact (toInt_of_le (N := 31) (by omega) (by simp; omega)).trans (by simp; omega)
  · exact (toInt_of_le (N := 63) (by omega) (by simp; omega)).trans (by simp; omega)
  · rw [clip_word _ _ hc', toInt_of_le hN' (Bilinear.pixel_le _ (by omega))]
  · rw [clip_word _ _ hc, toInt_of_le hN (Bilinear.pixel_le _ (by omega))]

/-- The bilinear sample of a volume at the positions `px`, `py`: its four corners, summed. -/
def sampled {h w : Nat} (wf : GatherOk h w) (vol : FVec Ideal (SVol h w) .f32) (px py : FVec Ideal STap .f32)
    (n n' c c' : BitVec 32) : FVec Ideal SRes .f32 :=
  let one := splat 0x3F800000#32
  let x0 := Host.floor px
  let y0 := Host.floor py
  let wx := subf px x0
  let wy := subf py y0
  addf (addf (addf (corner wf vol x0 y0 (mulf (subf one wx) (subf one wy)) n n' c c')
    (corner wf vol (addf x0 one) y0 (mulf wx (subf one wy)) n n' c c'))
    (corner wf vol x0 (addf y0 one) (mulf (subf one wx) wy) n n' c c'))
    (corner wf vol (addf x0 one) (addf y0 one) (mulf wx wy) n n' c c')

/-- A batch and a pixel of the first map: a map of the second, zero outside. -/
def readAt {h w : Nat} (vol : FVec Ideal (SVol h w) .f32) (b : Fin 4) (i : Fin 32) (j : Fin 64) (y x : ℕ) : EReal :=
  if p : y < h ∧ x < w then vol (ix5 b i j ⟨y, p.1⟩ ⟨x, p.2⟩) else 0

theorem one_real : Ideal.ofBits .f32 0x3F800000#32 = 1 := by
  simp [Ideal.ofBits, Ideal.ieee, -EReal.coe_mul]
  norm_num

/-- The lookup of a level at an index is the bilinear sample of the volume there. -/
theorem sampled_apply {h w : Nat} (wf : GatherOk h w) (vol : FVec Ideal (SVol h w) .f32) (px py : FVec Ideal STap .f32)
    (n n' c c' : BitVec 32) {N N' : ℕ} (hw : w = N + 1) (hh : h = N' + 1) (hN : N < 2 ^ 20) (hN' : N' < 2 ^ 20)
    (hn : Ideal.ofBits .f32 n = ((N : ℝ) : EReal)) (hn' : Ideal.ofBits .f32 n' = ((N' : ℝ) : EReal))
    (hc : c.toInt = N) (hc' : c'.toInt = N') (b : Fin 4) (i : Fin 32) (j : Fin 64) (o : Fin 41) :
    sampled wf vol px py n n' c c' (ix4 b i j o)
      = Bilinear.sample (readAt vol b i j) (px (ix3 i j o)) (py (ix3 i j o)) ((N : ℝ) : EReal) ((N' : ℝ) : EReal) := by
  have hcorner := fun (xi yi wgt : FVec Ideal STap .f32) => corner_apply wf vol xi yi wgt n n' c c' hw hh hN hN' hn hn' hc hc' b i j o
    (by have := Bilinear.pixel_le (xi (ix3 i j o)) (n := N) (by omega); omega)
    (by have := Bilinear.pixel_le (yi (ix3 i j o)) (n := N') (by omega); omega)
  have hread : ∀ (xi yi : EReal) (hx) (hy), vol (ix5 b i j ⟨(Bilinear.pixel yi ((N' : ℝ) : EReal)).toNat, hy⟩
      ⟨(Bilinear.pixel xi ((N : ℝ) : EReal)).toNat, hx⟩)
      = readAt vol b i j (Bilinear.pixel yi ((N' : ℝ) : EReal)).toNat (Bilinear.pixel xi ((N : ℝ) : EReal)).toNat :=
    fun xi yi hx hy => by unfold readAt; rw [dif_pos ⟨hy, hx⟩]
  unfold sampled
  simp only [show ∀ (p q : FVec Ideal SRes .f32) (s : SRes.Idx), addf p q s = p s + q s from fun _ _ _ => rfl, hcorner, hread]
  unfold splat
  pointwise [one_real]
  rfl

/-- Where the taps of one axis sit: from the coordinate `a` and the flow `f` of a pixel, both shrunk by `c`, and a tap's
    offset; scaled to the map of the level by way of the interval [-1, 1]. -/
def position (a f : FVec Ideal SPix .f32) (off : FVec Ideal ⟨1, ![41]⟩ .f32) (c cw n : BitVec 32) : FVec Ideal STap .f32 :=
  let s := addf (broadcastInDim STap ![0, 1, 2] (by decide) (addf a (Host.divf f (broadcastInDim SPix ![] (by decide) (constant S0 .f32 c)))))
    (broadcastInDim STap ![0, 1, 2] (by decide) (broadcastInDim ⟨3, ![1, 1, 41]⟩ ![2] (by decide) off))
  Host.divf (mulf (addf (subf (Host.divf s (splat cw)) (splat 0x3F800000#32)) (splat 0x3F800000#32)) (splat n)) (splat 0x40000000#32)

/-- Division by a real number other than zero is the product with its inverse. -/
theorem div_coe (x : EReal) {r : ℝ} (hr : r ≠ 0) : Ideal.div x (r : EReal) = x * ((r⁻¹ : ℝ) : EReal) := by
  unfold Ideal.div
  rw [if_neg (by exact_mod_cast hr), EReal.coe_inv]

/-- The chain of scalings is one scaling and one shift, on the finite positions and on the infinite ones. -/
theorem scale_chain (A C W N D : ℝ) (hC : 0 < C) (hW : 0 < W) (hN : 0 < N) (f : EReal) :
    Ideal.div ((Ideal.div (((A / C : ℝ) : EReal) + Ideal.div f (C : EReal) + ((D : ℝ) : EReal)) (W : EReal) - 1 + 1) * (N : EReal))
        ((2 : ℝ) : EReal)
      = ((A : EReal) + f) * ((N / (2 * C * W) : ℝ) : EReal) + ((D * (N / (2 * W)) : ℝ) : EReal) := by
  have hc : 0 < C⁻¹ := inv_pos.mpr hC
  have hw : 0 < W⁻¹ := inv_pos.mpr hW
  have hs : 0 < N / (2 * C * W) := by positivity
  rw [div_coe _ hC.ne', div_coe _ hW.ne', div_coe _ (by norm_num : (2 : ℝ) ≠ 0)]
  have h2 : (0 : ℝ) < 2⁻¹ := by norm_num
  induction f with
  | bot =>
    rw [EReal.bot_mul_coe_of_pos hc, EReal.add_bot, EReal.bot_add, EReal.bot_mul_coe_of_pos hw, EReal.bot_sub, EReal.bot_add,
      EReal.bot_mul_coe_of_pos hN, EReal.bot_mul_coe_of_pos h2, EReal.add_bot, EReal.bot_mul_coe_of_pos hs, EReal.bot_add]
  | top =>
    rw [EReal.top_mul_coe_of_pos hc, EReal.coe_add_top, EReal.top_add_coe, EReal.top_mul_coe_of_pos hw,
      show (1 : EReal) = ((1 : ℝ) : EReal) from rfl, EReal.top_sub_coe, EReal.top_add_coe,
      EReal.top_mul_coe_of_pos hN, EReal.top_mul_coe_of_pos h2, EReal.coe_add_top, EReal.top_mul_coe_of_pos hs, EReal.top_add_coe]
  | coe r =>
    rw [show (1 : EReal) = ((1 : ℝ) : EReal) from rfl]
    norm_cast
    field_simp
    ring

theorem two_real : Ideal.ofBits .f32 0x40000000#32 = ((2 : ℝ) : EReal) := by
  simp [Ideal.ofBits, Ideal.ieee, -EReal.coe_mul]
  norm_num

/-- A tap's position, gathered into one product and one sum. -/
theorem position_apply (a f : FVec Ideal SPix .f32) (off : FVec Ideal ⟨1, ![41]⟩ .f32) (c cw n : BitVec 32)
    (A C W N D : ℝ) (hC : 0 < C) (hW : 0 < W) (hN : 0 < N) (i : Fin 32) (j : Fin 64) (o : Fin 41)
    (ha : a (ix3 i j 0) = ((A / C : ℝ) : EReal)) (hc : Ideal.ofBits .f32 c = (C : EReal)) (hw : Ideal.ofBits .f32 cw = (W : EReal))
    (hn : Ideal.ofBits .f32 n = (N : EReal)) (hd : off (ix1 o) = (D : EReal)) :
    position a f off c cw n (ix3 i j o)
      = ((A : EReal) + f (ix3 i j 0)) * ((N / (2 * C * W) : ℝ) : EReal) + ((D * (N / (2 * W)) : ℝ) : EReal) := by
  unfold position splat
  pointwise [one_real, two_real, hc, hw, hn, hd, ha]
  exact scale_chain A C W N D hC hW hN _

/-- The column and the row of a pixel, shrunk by `c`. -/
def shrunkCol (c : BitVec 32) : FVec Ideal SPix .f32 :=
  broadcastInDim SPix ![0, 1, 2] (by decide) (Host.divf (broadcastInDim ⟨3, ![1, 64, 1]⟩ ![1] (by decide)
    (sitofp .f32 (iotaInDim ⟨1, ![64]⟩ 32 0))) (broadcastInDim ⟨3, ![1, 64, 1]⟩ ![] (by decide) (constant S0 .f32 c)))
def shrunkRow (c : BitVec 32) : FVec Ideal SPix .f32 :=
  broadcastInDim SPix ![0, 1, 2] (by decide) (Host.divf (broadcastInDim ⟨3, ![32, 1, 1]⟩ ![0] (by decide)
    (sitofp .f32 (iotaInDim ⟨1, ![32]⟩ 32 0))) (broadcastInDim ⟨3, ![32, 1, 1]⟩ ![] (by decide) (constant S0 .f32 c)))

/-- A whole number over a real. -/
theorem ratio (k : ℕ) (hk : k < 2 ^ 20) {C : ℝ} (hC : 0 < C) :
    Ideal.div (FloatOps.sitofp (F := Ideal) .f32 (BitVec.ofNat 32 k)) (C : EReal) = (((k : ℝ) / C : ℝ) : EReal) := by
  show Ideal.div (((BitVec.ofNat 32 k).toInt : ℝ) : EReal) (C : EReal) = _
  rw [div_coe _ hC.ne', show (BitVec.ofNat 32 k).toInt = (k : ℤ) from ?_, ← EReal.coe_mul, div_eq_mul_inv]
  · norm_cast
  · rw [BitVec.toInt_eq_toNat_of_lt (by simp; omega)]
    simp
    omega

/-- The column over the factor of the level. -/
theorem shrunkCol_apply (c : BitVec 32) {C : ℝ} (hC : 0 < C) (hc : Ideal.ofBits .f32 c = (C : EReal)) (i : Fin 32) (j : Fin 64) :
    shrunkCol c (ix3 i j 0) = (((j.val : ℝ) / C : ℝ) : EReal) := by
  unfold shrunkCol
  pointwise [hc]
  exact ratio _ (by omega) hC

/-- The row over the factor of the level. -/
theorem shrunkRow_apply (c : BitVec 32) {C : ℝ} (hC : 0 < C) (hc : Ideal.ofBits .f32 c = (C : EReal)) (i : Fin 32) (j : Fin 64) :
    shrunkRow c (ix3 i j 0) = (((i.val : ℝ) / C : ℝ) : EReal) := by
  unfold shrunkRow
  pointwise [hc]
  exact ratio _ (by omega) hC

/-- The horizontal and the vertical part of the flow, at every pixel. -/
def flowX (fl : FVec Ideal ⟨3, ![2, 32, 64]⟩ .f32) : FVec Ideal SPix .f32 :=
  broadcastInDim SPix ![0, 1] (by decide) (shapeCast ⟨2, ![32, 64]⟩
    (extractStridedSlice ⟨3, ![1, 32, 64]⟩ ![1, 0, 0] fl (by decide)) (by decide))
def flowY (fl : FVec Ideal ⟨3, ![2, 32, 64]⟩ .f32) : FVec Ideal SPix .f32 :=
  broadcastInDim SPix ![0, 1] (by decide) (shapeCast ⟨2, ![32, 64]⟩
    (extractStridedSlice ⟨3, ![1, 32, 64]⟩ ![0, 0, 0] fl (by decide)) (by decide))

/-- The flow along x. -/
theorem flowX_apply (fl : FVec Ideal ⟨3, ![2, 32, 64]⟩ .f32) (i : Fin 32) (j : Fin 64) : flowX fl (ix3 i j 0) = fl (ix3 1 i j) := by
  unfold flowX
  pointwise

/-- The flow along y. -/
theorem flowY_apply (fl : FVec Ideal ⟨3, ![2, 32, 64]⟩ .f32) (i : Fin 32) (j : Fin 64) : flowY fl (ix3 i j 0) = fl (ix3 0 i j) := by
  unfold flowY
  pointwise

end Cert.Lookup
-- ==== Proof.Pyramid.lean ====
module

public import proofs.«01_k».proof.Proof.Lookup

/-! # The reference's correlation volumes, at any size -/

@[expose] public section

set_option maxRecDepth 16384

noncomputable section

namespace Cert.Lookup

open Idealize.ShloMosaic Cert.Blocks

/-- A volume's map cut into two by two blocks. -/
abbrev SCut (h w : Nat) : Shape := ⟨7, ![4, 32, 64, h, 2, w, 2]⟩

/-- The indices that a sum over the two block axes collects. -/
theorem drop_cut {h w : Nat} (hr : (SCut h w).ReducesTo [4, 6] (SVol h w)) (b : Fin 4) (i : Fin 32) (j : Fin 64) (y : Fin h)
    (x : Fin w) (p : (SCut h w).Idx) :
    hr.drop p = ix5 b i j y x ↔ ∃ k : Fin 2 × Fin 2, ix7 b i j y k.1 x k.2 = p := by
  constructor
  · intro e
    refine ⟨(p 4, p 6), ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
    | ⟨5, _⟩ => exact (congrArg Fin.val (congrFun e 4)).symm
    | ⟨6, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

/-- Half a volume: the mean of every two by two block. -/
def half {h w : Nat} (hc : (SVol (2 * h) (2 * w)).ShapeCasts (SCut h w)) (hr : (SCut h w).ReducesTo [4, 6] (SVol h w))
    (hb : S0.BroadcastsInDim (SVol h w) (![] : Fin 0 → Fin (SVol h w).rank))
    (vol : FVec Ideal (SVol (2 * h) (2 * w)) .f32) : FVec Ideal (SVol h w) .f32 :=
  Host.divf (Host.reduceAdd (shapeCast (SCut h w) vol hc) (constant S0 .f32 0x00000000#32) hr (by decide))
    (broadcastInDim (SVol h w) ![] hb (constant S0 .f32 0x40800000#32))

/-- The mean of a two by two block. -/
theorem half_apply {h w : Nat} (hc hr hb) (vol : FVec Ideal (SVol (2 * h) (2 * w)) .f32) (b : Fin 4) (i : Fin 32) (j : Fin 64)
    (y : Fin h) (x : Fin w) :
    half hc hr hb vol (ix5 b i j y x) = (vol (ix5 b i j ⟨2 * y.val, by omega⟩ ⟨2 * x.val, by omega⟩)
      + vol (ix5 b i j ⟨2 * y.val, by omega⟩ ⟨2 * x.val + 1, by omega⟩)
      + vol (ix5 b i j ⟨2 * y.val + 1, by omega⟩ ⟨2 * x.val, by omega⟩)
      + vol (ix5 b i j ⟨2 * y.val + 1, by omega⟩ ⟨2 * x.val + 1, by omega⟩)) * ((1 / 4 : ℝ) : EReal) := by
  have h4 : Ideal.ofBits .f32 0x40800000#32 = ((4 : ℝ) : EReal) := by
    simp [Ideal.ofBits, Ideal.ieee, -EReal.coe_mul]; norm_num
  have h0 : Ideal.ofBits .f32 0x00000000#32 = 0 := by simp [Ideal.ofBits, Ideal.ieee, -EReal.coe_mul]
  have hcut : ∀ k : Fin 2 × Fin 2, shapeCast (SCut h w) vol hc (ix7 b i j y k.1 x k.2)
      = vol (ix5 b i j ⟨2 * y.val + k.1.val, by omega⟩ ⟨2 * x.val + k.2.val, by omega⟩) := fun k => by
    refine congrArg vol (Shape.reshapeEquiv_eq_of_rowMajor _ ?_)
    rw [rowMajor_val7 _ (32 * (64 * (h * (2 * (w * 2))))) (64 * (h * (2 * (w * 2)))) (h * (2 * (w * 2))) (2 * (w * 2)) (w * 2) 2
      rfl rfl rfl rfl rfl rfl, rowMajor_val5 _ (32 * (64 * (2 * h * (2 * w)))) (64 * (2 * h * (2 * w))) (2 * h * (2 * w)) (2 * w)
      rfl rfl rfl rfl]
    show b.val * (32 * (64 * (2 * h * (2 * w)))) + i.val * (64 * (2 * h * (2 * w))) + j.val * (2 * h * (2 * w))
        + (2 * y.val + k.1.val) * (2 * w) + (2 * x.val + k.2.val)
      = b.val * (32 * (64 * (h * (2 * (w * 2))))) + i.val * (64 * (h * (2 * (w * 2)))) + j.val * (h * (2 * (w * 2)))
        + y.val * (2 * (w * 2)) + k.1.val * (w * 2) + x.val * 2 + k.2.val
    ring
  have hsum : Ideal.hostReduceAdd hr (shapeCast (SCut h w) vol hc) 0 (ix5 b i j y x)
      = 0 + ∑ k : Fin 2 × Fin 2, shapeCast (SCut h w) vol hc (ix7 b i j y k.1 x k.2) :=
    congrArg (0 + ·) (Finset.sum_filter_eq_sum_of_fiber _ (fun k : Fin 2 × Fin 2 => ix7 b i j y k.1 x k.2)
      (fun _ _ e => Prod.ext (congrFun e 4) (congrFun e 6)) (drop_cut hr b i j y x) _)
  unfold half
  pointwise [h4, h0]
  rw [hsum, div_coe _ (by norm_num : (4 : ℝ) ≠ 0), zero_add]
  simp only [hcut, Fintype.sum_prod_type, Fin.sum_univ_two]
  rw [← add_assoc, one_div]
  rfl

/-- Half a volume, read anywhere, is the mean of four pixels of the volume. -/
theorem readAt_half {h w : Nat} (hc hr hb) (vol : FVec Ideal (SVol (2 * h) (2 * w)) .f32) (b : Fin 4) (i : Fin 32) (j : Fin 64) :
    readAt (half (h := h) (w := w) hc hr hb vol) b i j = Spec.mean4 (readAt vol b i j) := by
  funext y x
  unfold Spec.mean4 readAt
  by_cases hyx : y < h ∧ x < w
  · rw [dif_pos hyx, half_apply, dif_pos ⟨by omega, by omega⟩, dif_pos ⟨by omega, by omega⟩, dif_pos ⟨by omega, by omega⟩,
      dif_pos ⟨by omega, by omega⟩]
  · rw [dif_neg hyx, dif_neg (by omega), dif_neg (by omega), dif_neg (by omega), dif_neg (by omega)]
    simp

end Cert.Lookup
-- ==== Proof.RefLevel.lean ====
module

public import proofs.«01_k».proof.Proof.Pyramid

/-! # One level of the reference -/

@[expose] public section

set_option maxRecDepth 16384

noncomputable section

namespace Cert.Lookup

open Idealize.ShloMosaic Cert.Blocks

/-- The numbers of a level: the factor it shrinks by, half of the image's width and height at the level, and the last
column and row of its map, as floats and as integers. -/
structure Numbers where
  shrink : BitVec 32
  halfW : BitVec 32
  halfH : BitVec 32
  lastX : BitVec 32
  lastY : BitVec 32
  lastXi : BitVec 32
  lastYi : BitVec 32

def numbers : Fin 4 → Numbers := ![
  ⟨0x3F800000#32, 0x43800000#32, 0x43000000#32, 0x427C0000#32, 0x41F80000#32, 63#32, 31#32⟩,
  ⟨0x40000000#32, 0x43000000#32, 0x42800000#32, 0x41F80000#32, 0x41700000#32, 31#32, 15#32⟩,
  ⟨0x40800000#32, 0x42800000#32, 0x42000000#32, 0x41700000#32, 0x40E00000#32, 15#32, 7#32⟩,
  ⟨0x41000000#32, 0x42000000#32, 0x41800000#32, 0x40E00000#32, 0x40400000#32, 7#32, 3#32⟩]

def shrinkR : Fin 4 → ℝ := ![1, 2, 4, 8]
def halfWR : Fin 4 → ℝ := ![256, 128, 64, 32]
def halfHR : Fin 4 → ℝ := ![128, 64, 32, 16]

/-- The positions of a level's taps. -/
def placeX (k : Fin 4) (fl : FVec Ideal ⟨3, ![2, 32, 64]⟩ .f32) (xo : FVec Ideal ⟨1, ![41]⟩ .f32) : FVec Ideal STap .f32 :=
  position (shrunkCol (numbers k).shrink) (flowX fl) xo (numbers k).shrink (numbers k).halfW (numbers k).lastX
def placeY (k : Fin 4) (fl : FVec Ideal ⟨3, ![2, 32, 64]⟩ .f32) (yo : FVec Ideal ⟨1, ![41]⟩ .f32) : FVec Ideal STap .f32 :=
  position (shrunkRow (numbers k).shrink) (flowY fl) yo (numbers k).shrink (numbers k).halfH (numbers k).lastY

/-- A level of the lookup. -/
def refLevel {h w : Nat} (wf : GatherOk h w) (k : Fin 4) (vol : FVec Ideal (SVol h w) .f32)
    (px py : FVec Ideal STap .f32) : FVec Ideal SRes .f32 :=
  sampled wf vol px py (numbers k).lastX (numbers k).lastY (numbers k).lastXi (numbers k).lastYi

theorem shrink_real (k : Fin 4) : Ideal.ofBits .f32 (numbers k).shrink = ((shrinkR k : ℝ) : EReal) := by
  fin_cases k <;> simp [numbers, shrinkR, Ideal.ofBits, Ideal.ieee, -EReal.coe_mul] <;> norm_num
theorem halfW_real (k : Fin 4) : Ideal.ofBits .f32 (numbers k).halfW = ((halfWR k : ℝ) : EReal) := by
  fin_cases k <;> simp [numbers, halfWR, Ideal.ofBits, Ideal.ieee, -EReal.coe_mul] <;> norm_num
theorem halfH_real (k : Fin 4) : Ideal.ofBits .f32 (numbers k).halfH = ((halfHR k : ℝ) : EReal) := by
  fin_cases k <;> simp [numbers, halfHR, Ideal.ofBits, Ideal.ieee, -EReal.coe_mul] <;> norm_num
theorem lastX_real (k : Fin 4) : Ideal.ofBits .f32 (numbers k).lastX = ((lastN ⟨k.val, by omega⟩ : ℝ) : EReal) := by
  fin_cases k <;> simp [numbers, lastN, Ideal.ofBits, Ideal.ieee, -EReal.coe_mul] <;> norm_num
theorem lastY_real (k : Fin 4) : Ideal.ofBits .f32 (numbers k).lastY = ((lastN ⟨4 + k.val, by omega⟩ : ℝ) : EReal) := by
  fin_cases k <;> simp [numbers, lastN, Ideal.ofBits, Ideal.ieee, -EReal.coe_mul] <;> norm_num
theorem last_int (k : Fin 4) : (numbers k).lastXi.toInt = lastN ⟨k.val, by omega⟩ ∧ (numbers k).lastYi.toInt = lastN ⟨4 + k.val, by omega⟩ := by
  fin_cases k <;> decide
theorem numbers_pos (k : Fin 4) : 0 < shrinkR k ∧ 0 < halfWR k ∧ 0 < halfHR k := by
  fin_cases k <;> norm_num [shrinkR, halfWR, halfHR]
theorem last_pos (e : Fin 8) : (0 : ℝ) < lastN e := by
  fin_cases e <;> norm_num [lastN]
theorem last_lt (e : Fin 8) : lastN e < 2 ^ 20 := by
  fin_cases e <;> norm_num [lastN]

/-- The reference's scale and step are the kernel's. -/
theorem scale_eq (k : Fin 4) :
    (lastN ⟨k.val, by omega⟩ : ℝ) / (2 * shrinkR k * halfWR k) = scaleR ⟨k.val, by omega⟩
      ∧ (lastN ⟨k.val, by omega⟩ : ℝ) / (2 * halfWR k) = stepR ⟨k.val, by omega⟩
      ∧ (lastN ⟨4 + k.val, by omega⟩ : ℝ) / (2 * shrinkR k * halfHR k) = scaleR ⟨4 + k.val, by omega⟩
      ∧ (lastN ⟨4 + k.val, by omega⟩ : ℝ) / (2 * halfHR k) = stepR ⟨4 + k.val, by omega⟩ := by
  fin_cases k <;> norm_num [lastN, shrinkR, halfWR, halfHR, scaleR, stepR]

/-- The reference's position along x is the kernel's. -/
theorem placeX_apply (k : Fin 4) (fl : FVec Ideal ⟨3, ![2, 32, 64]⟩ .f32) (xo : FVec Ideal ⟨1, ![41]⟩ .f32)
    (hxo : ∀ o : Fin 41, xo (ix1 o) = ((((colAt o).val : ℝ) - 4 : ℝ) : EReal)) (i : Fin 32) (j : Fin 64) (o : Fin 41) :
    placeX k fl xo (ix3 i j o)
      = place ⟨k.val, by omega⟩ ⟨64 * i.val + j.val, by show _ < 2048; omega⟩ (fl (ix3 1 i j)) (colAt o).val := by
  obtain ⟨hC, hW, -⟩ := numbers_pos k
  unfold placeX
  rw [position_apply _ _ _ _ _ _ (j.val : ℝ) (shrinkR k) (halfWR k) _ _ hC hW (last_pos _) i j o
    (shrunkCol_apply _ hC (shrink_real k) i j) (shrink_real k) (halfW_real k) (lastX_real k) (hxo o), flowX_apply,
    (scale_eq k).1, (scale_eq k).2.1]
  unfold place centre coord
  rw [if_pos (show k.val < 4 from k.isLt), show (64 * i.val + j.val) % 64 = j.val by omega]

/-- The reference's position along y is the kernel's. -/
theorem placeY_apply (k : Fin 4) (fl : FVec Ideal ⟨3, ![2, 32, 64]⟩ .f32) (yo : FVec Ideal ⟨1, ![41]⟩ .f32)
    (hyo : ∀ o : Fin 41, yo (ix1 o) = ((((rowAt o).val : ℝ) - 4 : ℝ) : EReal)) (i : Fin 32) (j : Fin 64) (o : Fin 41) :
    placeY k fl yo (ix3 i j o)
      = place ⟨4 + k.val, by omega⟩ ⟨64 * i.val + j.val, by show _ < 2048; omega⟩ (fl (ix3 0 i j)) (rowAt o).val := by
  obtain ⟨hC, -, hH⟩ := numbers_pos k
  unfold placeY
  rw [position_apply _ _ _ _ _ _ (i.val : ℝ) (shrinkR k) (halfHR k) _ _ hC hH (last_pos _) i j o
    (shrunkRow_apply _ hC (shrink_real k) i j) (shrink_real k) (halfH_real k) (lastY_real k) (hyo o), flowY_apply,
    (scale_eq k).2.2.1, (scale_eq k).2.2.2]
  unfold place centre coord
  rw [if_neg (show ¬ 4 + k.val < 4 by omega), show (64 * i.val + j.val) / 64 = i.val by omega]

/-- A level at an index is a bilinear sample. -/
theorem refLevel_apply {h w : Nat} (wf : GatherOk h w) (k : Fin 4) (vol : FVec Ideal (SVol h w) .f32)
    (px py : FVec Ideal STap .f32) (hw : w = lastN ⟨k.val, by omega⟩ + 1) (hh : h = lastN ⟨4 + k.val, by omega⟩ + 1)
    (b : Fin 4) (i : Fin 32) (j : Fin 64) (o : Fin 41) :
    refLevel wf k vol px py (ix4 b i j o) = Bilinear.sample (readAt vol b i j) (px (ix3 i j o)) (py (ix3 i j o))
      ((lastN ⟨k.val, by omega⟩ : ℝ) : EReal) ((lastN ⟨4 + k.val, by omega⟩ : ℝ) : EReal) :=
  sampled_apply wf vol px py _ _ _ _ hw hh (last_lt _) (last_lt _) (lastX_real k) (lastY_real k) (last_int k).1 (last_int k).2 b i j o

end Cert.Lookup
-- ==== Proof.RefLink.lean ====
module

public import proofs.«01_k».proof.Proof.RefLevel
public import proofs.«01_k».proof.Proof.Gen.ReferenceIdeal.Read

/-! # The reference's values as the pyramid and the levels -/

@[expose] public section

set_option maxRecDepth 16384

noncomputable section

namespace Cert.RefLink

open Idealize.ShloMosaic Cert.ReferenceIdeal Cert.ReferenceIdeal.Read Cert.Lookup

variable (x0 x1 : FVec Ideal S4x256x32x64 .f32) (x2 : FVec Ideal S2x32x64 .f32)

/-- Each map of the pyramid is half of the one above it. -/
theorem half1 (hc hr hb) : val_main_v54 (F := Ideal) x0 x1 = half (h := 16) (w := 32) hc hr hb (val_main_v50 (F := Ideal) x0 x1) := rfl
theorem half2 (hc hr hb) : val_main_v58 (F := Ideal) x0 x1 = half (h := 8) (w := 16) hc hr hb (val_main_v54 (F := Ideal) x0 x1) := rfl
theorem half3 (hc hr hb) : val_main_v62 (F := Ideal) x0 x1 = half (h := 4) (w := 8) hc hr hb (val_main_v58 (F := Ideal) x0 x1) := rfl

/-- Each level is the lookup in its map, at its positions. -/
theorem level0 (wf) : val_main_v249 (F := Ideal) x0 x1 x2 = refLevel (h := 32) (w := 64) wf 0 (val_main_v50 (F := Ideal) x0 x1)
    (placeX 0 x2 (val_main_v45 (F := Ideal))) (placeY 0 x2 (val_main_v46 (F := Ideal))) := rfl

theorem level1 (wf) : val_main_v438 (F := Ideal) x0 x1 x2 = refLevel (h := 16) (w := 32) wf 1 (val_main_v54 (F := Ideal) x0 x1)
    (placeX 1 x2 (val_main_v45 (F := Ideal))) (placeY 1 x2 (val_main_v46 (F := Ideal))) := rfl

theorem level2 (wf) : val_main_v627 (F := Ideal) x0 x1 x2 = refLevel (h := 8) (w := 16) wf 2 (val_main_v58 (F := Ideal) x0 x1)
    (placeX 2 x2 (val_main_v45 (F := Ideal))) (placeY 2 x2 (val_main_v46 (F := Ideal))) := rfl

theorem level3 (wf) : val_main_v816 (F := Ideal) x0 x1 x2 = refLevel (h := 4) (w := 8) wf 3 (val_main_v62 (F := Ideal) x0 x1)
    (placeX 3 x2 (val_main_v45 (F := Ideal))) (placeY 3 x2 (val_main_v46 (F := Ideal))) := rfl

end Cert.RefLink
-- ==== Proof.Offsets.lean ====
module

public import proofs.«01_k».proof.Proof.RefLink

/-! # The reference's tables of offsets -/

@[expose] public section

set_option maxRecDepth 16384

noncomputable section

namespace Cert.RefRead

open Idealize.ShloMosaic Cert.ReferenceIdeal Cert.ReferenceIdeal.Read Cert.Blocks

/-- The whole numbers from zero to four, as floats. -/
def small : Fin 5 → BitVec 32 := ![0x00000000#32, 0x3F800000#32, 0x40000000#32, 0x40400000#32, 0x40800000#32]

/-- The words of the small numbers. -/
theorem small_real (r : Fin 5) : Ideal.ofBits .f32 (small r) = ((r.val : ℝ) : EReal) := by
  fin_cases r <;> simp [small, Ideal.ofBits, Ideal.ieee, -EReal.coe_mul] <;> norm_num

/-- The `n` whole numbers from `-r` on. -/
def sweep (n : Nat) (r : Fin 5) : FVec Ideal ⟨1, ![n]⟩ .f32 :=
  subf (sitofp .f32 (iotaInDim ⟨1, ![n]⟩ 32 0)) (constant _ .f32 (small r))

/-- The numbers of a sweep. -/
theorem sweep_apply (n : Nat) (hn : n < 10) (r : Fin 5) (k : Fin n) : sweep n r (ix1 k) = (((k.val : ℝ) - (r.val : ℝ) : ℝ) : EReal) := by
  have hk : (BitVec.ofNat 32 k.val).toInt = k.val := by
    rw [BitVec.toInt_ofNat', Int.bmod_eq_of_le (by omega) (by omega)]
  show (((BitVec.ofNat 32 k.val).toInt : ℝ) : EReal) - Ideal.ofBits .f32 (small r) = _
  rw [hk, small_real, ← EReal.coe_sub]
  norm_cast

/-- The pieces of the table of offsets along x. -/
theorem pieces : val_main_v3 (F := Ideal) = sweep 1 0 ∧ val_main_v7 (F := Ideal) = sweep 3 1 ∧ val_main_v11 (F := Ideal) = sweep 5 2
    ∧ val_main_v15 (F := Ideal) = sweep 7 3 ∧ val_main_v19 (F := Ideal) = sweep 9 4 ∧ val_main_v23 (F := Ideal) = sweep 7 3
    ∧ val_main_v27 (F := Ideal) = sweep 5 2 ∧ val_main_v31 (F := Ideal) = sweep 3 1 ∧ val_main_v35 (F := Ideal) = sweep 1 0 :=
  ⟨rfl, rfl, rfl, rfl, rfl, rfl, rfl, rfl, rfl⟩

/-- Two differences that are equal as natural numbers are. -/
theorem diff {a r c : ℕ} (h : a + 4 = c + r) : (a : ℝ) - r = (c : ℝ) - 4 := by
  have h' : (a : ℝ) + 4 = c + r := by exact_mod_cast h
  linarith

/-- The offset of a tap along x is its column, less four. -/
theorem xo_apply (o : Fin 41) :
    @Eq EReal (val_main_v45 (F := Ideal) (ix1 o)) ((((colAt o).val : ℝ) - 4 : ℝ) : EReal) := by
  obtain ⟨h1, h2, h3, h4, h5, h6, h7, h8, h9⟩ := pieces
  unfold val_main_v45
  rw [h1, h2, h3, h4, h5, h6, h7, h8, h9]
  fin_cases o <;> (pointwise [sweep_apply]; exact congrArg Real.toEReal (diff rfl))

/-- The whole numbers from `-4` to `4`, as floats. -/
def rows : Fin 9 → BitVec 32 := ![0xC0800000#32, 0xC0400000#32, 0xC0000000#32, 0xBF800000#32, 0x00000000#32, 0x3F800000#32, 0x40000000#32,
  0x40400000#32, 0x40800000#32]

/-- The words of the rows. -/
theorem rows_real (r : Fin 9) : Ideal.ofBits .f32 (rows r) = (((r.val : ℝ) - 4 : ℝ) : EReal) := by
  refine Eq.trans (b := ((![-4, -3, -2, -1, 0, 1, 2, 3, 4] r : ℝ) : EReal)) ?_ (congrArg Real.toEReal ?_)
  · fin_cases r <;> simp [rows, Ideal.ofBits, Ideal.ieee, -EReal.coe_mul] <;> norm_num
  · fin_cases r <;> norm_num

/-- `n` times the number of a row. -/
def flat (n : Nat) (r : Fin 9) : FVec Ideal ⟨1, ![n]⟩ .f32 := constant _ .f32 (rows r)

/-- A piece of the table along y. -/
theorem flat_apply (n : Nat) (r : Fin 9) (k : Fin n) : flat n r (ix1 k) = (((r.val : ℝ) - 4 : ℝ) : EReal) := rows_real r

/-- The pieces of the table of offsets along y. -/
theorem row_pieces : val_main_v36 (F := Ideal) = flat 1 0 ∧ val_main_v37 (F := Ideal) = flat 3 1 ∧ val_main_v38 (F := Ideal) = flat 5 2
    ∧ val_main_v39 (F := Ideal) = flat 7 3 ∧ val_main_v40 (F := Ideal) = flat 9 4 ∧ val_main_v41 (F := Ideal) = flat 7 5
    ∧ val_main_v42 (F := Ideal) = flat 5 6 ∧ val_main_v43 (F := Ideal) = flat 3 7 ∧ val_main_v44 (F := Ideal) = flat 1 8 :=
  ⟨rfl, rfl, rfl, rfl, rfl, rfl, rfl, rfl, rfl⟩

/-- The offset of a tap along y is its row, less four. -/
theorem yo_apply (o : Fin 41) :
    @Eq EReal (val_main_v46 (F := Ideal) (ix1 o)) ((((rowAt o).val : ℝ) - 4 : ℝ) : EReal) := by
  obtain ⟨h1, h2, h3, h4, h5, h6, h7, h8, h9⟩ := row_pieces
  unfold val_main_v46
  rw [h1, h2, h3, h4, h5, h6, h7, h8, h9]
  fin_cases o <;> pointwise [flat_apply] <;> rfl

end Cert.RefRead
-- ==== Proof.RefRead.lean ====
module

public import proofs.«01_k».proof.Proof.Offsets

/-! # The reference's result, entry by entry -/

@[expose] public section

set_option maxRecDepth 16384

noncomputable section

namespace Cert.RefRead

open Idealize.ShloMosaic Cert.ReferenceIdeal Cert.ReferenceIdeal.Read Cert.Lookup Cert.Blocks

/-! ## The stack of the four levels -/

/-- A level moved to the place it has in the result: its taps before its pixels. -/
def layer (r : FVec Ideal SRes .f32) : FVec Ideal S4x41x1x32x64 .f32 :=
  broadcastInDim S4x41x1x32x64 ![0, 1, 3, 4] Gen.bcast_S4x41x32x64_S4x41x1x32x64_0_1_3_4
    (shapeCast S4x41x32x64 (broadcastInDim S4x41x1x32x64 ![0, 1, 3, 4] Gen.bcast_S4x41x32x64_S4x41x1x32x64_0_1_3_4
      (transpose S4x41x32x64 [0, 3, 1, 2] r Gen.transposes_S4x32x64x41_S4x41x32x64_0_3_1_2)) Gen.shapeCasts_S4x41x1x32x64_S4x41x32x64)

def stack (r0 r1 r2 r3 : FVec Ideal SRes .f32) : FVec Ideal S4x41x4x2048 .f32 :=
  shapeCast S4x41x4x2048 (concatenate S4x41x4x32x64 2 [⟨S4x41x1x32x64, layer r0⟩, ⟨S4x41x1x32x64, layer r1⟩, ⟨S4x41x1x32x64, layer r2⟩,
    ⟨S4x41x1x32x64, layer r3⟩] Gen.concatenates_S4x41x1x32x64_S4x41x1x32x64_S4x41x1x32x64_S4x41x1x32x64_S4x41x4x32x64_d2)
    Gen.shapeCasts_S4x41x4x32x64_S4x41x4x2048

/-- A layer at an index. -/
theorem layer_apply (r : FVec Ideal SRes .f32) (b : Fin 4) (o : Fin 41) (i : Fin 32) (j : Fin 64) :
    layer r (ix5 b o 0 i j) = r (ix4 b i j o) := by
  unfold layer
  pointwise []

/-- The stack at an index is the layer of its level. -/
theorem stack_apply (r : Fin 4 → FVec Ideal SRes .f32) (b : Fin 4) (o : Fin 41) (k : Fin 4) (i : Fin 32) (j : Fin 64) :
    stack (r 0) (r 1) (r 2) (r 3) (ix4 b o k ⟨64 * i.val + j.val, by omega⟩) = r k (ix4 b i j o) := by
  unfold stack
  fin_cases k <;> pointwise [layer_apply]

/-- The reference's result is the stack of its levels. -/
theorem result_eq (x0 x1 : FVec Ideal S4x256x32x64 .f32) (x2 : FVec Ideal S2x32x64 .f32) :
    val_main_v828 (F := Ideal) x0 x1 x2 = stack (val_main_v249 (F := Ideal) x0 x1 x2) (val_main_v438 (F := Ideal) x0 x1 x2)
      (val_main_v627 (F := Ideal) x0 x1 x2) (val_main_v816 (F := Ideal) x0 x1 x2) := rfl

/-! ## The correlation volume -/

/-- The square root of 256. -/
theorem root : Ideal.sqrt (Ideal.ofBits .f32 0x43800000#32) = ((16 : ℝ) : EReal) := by
  have h : Ideal.ofBits .f32 0x43800000#32 = ((256 : ℝ) : EReal) := by
    simp [Ideal.ofBits, Ideal.ieee, -EReal.coe_mul]; norm_num
  rw [h]
  show (if (256 : ℝ) < 0 then (⊥ : EReal) else ((Real.sqrt 256 : ℝ) : EReal)) = _
  rw [if_neg (by norm_num), show (256 : ℝ) = 16 ^ 2 by norm_num, Real.sqrt_sq (by norm_num)]

/-- The correlation volume at an index. -/
theorem volume_apply (x0 x1 : FVec Ideal S4x256x32x64 .f32) (b : Fin 4) (i : Fin 32) (j : Fin 64) (y : Fin 32) (x : Fin 64) :
    @Eq EReal (val_main_v50 (F := Ideal) x0 x1 (ix5 b i j y x))
      ((∑ c : Fin 256, x0 (ix4 b c i j) * x1 (ix4 b c y x)) * ((1 / 16 : ℝ) : EReal)) := by
  rw [val_main_v50_apply, val_main_v49_apply, val_main_v48_apply, val_main_v47_apply]
  show Ideal.div _ (Ideal.sqrt (Ideal.ofBits .f32 0x43800000#32)) = _
  rw [root, div_coe _ (by norm_num : (16 : ℝ) ≠ 0), one_div]
  refine congrArg (· * _) (Finset.sum_congr rfl fun c _ => ?_)
  congr 2 <;> (funext a; fin_cases a <;> rfl)

/-- The correlation volume, read anywhere. -/
theorem readAt_volume (x0 x1 : FVec Ideal S4x256x32x64 .f32) (b : Fin 4) (i : Fin 32) (j : Fin 64) :
    readAt (h := 32) (w := 64) (val_main_v50 (F := Ideal) x0 x1) b i j = Spec.corr x0 x1 b i j := by
  funext y x
  unfold readAt Spec.corr
  by_cases h : y < 32 ∧ x < 64
  · rw [dif_pos h, dif_pos h, volume_apply]
  · rw [dif_neg h, dif_neg h]

/-! ## The result -/

/-- A level over a volume that is the pyramid's. -/
theorem level_entry {h w : Nat} (wf : GatherOk h w) (k : Fin 4) (vol : FVec Ideal (SVol h w) .f32)
    (x0 x1 : FVec Ideal S4x256x32x64 .f32) (x2 : FVec Ideal S2x32x64 .f32) (b : Fin 4) (o : Fin 41) (i : Fin 32) (j : Fin 64)
    (hw : w = lastN ⟨k.val, by omega⟩ + 1) (hh : h = lastN ⟨4 + k.val, by omega⟩ + 1)
    (hvol : readAt vol b i j = Spec.pyramid (Spec.corr x0 x1 b i j) k.val) :
    refLevel wf k vol (placeX k x2 (val_main_v45 (F := Ideal))) (placeY k x2 (val_main_v46 (F := Ideal))) (ix4 b i j o)
      = Spec.entry x0 x1 x2 b o k i j := by
  rw [refLevel_apply wf k vol _ _ hw hh, placeX_apply k x2 _ xo_apply, placeY_apply k x2 _ yo_apply, hvol]
  rfl

/-- The reference's result at an index is the entry. -/
theorem result_apply (x0 x1 : FVec Ideal S4x256x32x64 .f32) (x2 : FVec Ideal S2x32x64 .f32) (b : Fin 4) (o : Fin 41) (k : Fin 4)
    (i : Fin 32) (j : Fin 64) :
    @Eq EReal (val_main_v828 (F := Ideal) x0 x1 x2 (ix4 b o k ⟨64 * i.val + j.val, by omega⟩)) (Spec.entry x0 x1 x2 b o k i j) := by
  have p0 := readAt_volume x0 x1 b i j
  have p1 : readAt (h := 16) (w := 32) (val_main_v54 (F := Ideal) x0 x1) b i j = Spec.pyramid (Spec.corr x0 x1 b i j) 1 :=
    (congrArg (readAt · b i j) (RefLink.half1 x0 x1 (by decide) (by decide) (by decide))).trans
      ((readAt_half ..).trans (congrArg Spec.mean4 p0))
  have p2 : readAt (h := 8) (w := 16) (val_main_v58 (F := Ideal) x0 x1) b i j = Spec.pyramid (Spec.corr x0 x1 b i j) 2 :=
    (congrArg (readAt · b i j) (RefLink.half2 x0 x1 (by decide) (by decide) (by decide))).trans
      ((readAt_half ..).trans (congrArg Spec.mean4 p1))
  have p3 : readAt (h := 4) (w := 8) (val_main_v62 (F := Ideal) x0 x1) b i j = Spec.pyramid (Spec.corr x0 x1 b i j) 3 :=
    (congrArg (readAt · b i j) (RefLink.half3 x0 x1 (by decide) (by decide) (by decide))).trans
      ((readAt_half ..).trans (congrArg Spec.mean4 p2))
  rw [result_eq]
  refine (stack_apply ![val_main_v249 (F := Ideal) x0 x1 x2, val_main_v438 (F := Ideal) x0 x1 x2,
    val_main_v627 (F := Ideal) x0 x1 x2, val_main_v816 (F := Ideal) x0 x1 x2] b o k i j).trans ?_
  fin_cases k
  · exact (congrFun (RefLink.level0 x0 x1 x2 (by decide)) _).trans (level_entry _ 0 _ x0 x1 x2 b o i j rfl rfl p0)
  · exact (congrFun (RefLink.level1 x0 x1 x2 (by decide)) _).trans (level_entry _ 1 _ x0 x1 x2 b o i j rfl rfl p1)
  · exact (congrFun (RefLink.level2 x0 x1 x2 (by decide)) _).trans (level_entry _ 2 _ x0 x1 x2 b o i j rfl rfl p2)
  · exact (congrFun (RefLink.level3 x0 x1 x2 (by decide)) _).trans (level_entry _ 3 _ x0 x1 x2 b o i j rfl rfl p3)

end Cert.RefRead
-- ==== Proof.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.RefRead
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h.1 c).2, h.2⟩)
    (θ_run_and (Cert.ReferenceIdeal.Value.run m ρ) ((θ_run Cert.ReferenceIdeal.defs _ _).mono
      (fun r h => sem_eq_zero_of_no_sems (by decide) r.2) (Cert.ReferenceIdeal.Value.run m ρ)))

/-- An index of the result is a batch, a tap, a level and a pixel. -/
theorem index_eq (i : Cert.ReferenceIdeal.S4x41x4x2048.Idx) :
    i = ix4 (i 0) (i 1) (i 2) ⟨64 * ((i 3).val / 64) + (i 3).val % 64, by have : (i 3).val < 2048 := (i 3).isLt; omega⟩ := by
  funext a
  match a with
  | ⟨0, _⟩ => rfl
  | ⟨1, _⟩ => rfl
  | ⟨2, _⟩ => rfl
  | ⟨3, _⟩ => exact Fin.ext (Nat.div_add_mod _ 64).symm

/-- The kernel's result, as an array, is the reference's. -/
theorem result_eq (m : (ℓ : Loc Cert.KernelIdeal.nD Cert.KernelIdeal.τ Cert.KernelIdeal.sig) → Buf (Elt Ideal) ℓ)
    (c : Dev Cert.KernelIdeal.nD) :
    @Eq (FVec Ideal Cert.ReferenceIdeal.S4x41x4x2048 .f32)
      (Cert.ReferenceIdeal.Read.val_main_v828 (F := Ideal) (Array.feat1 m c) (Array.feat2 m c) (Array.flow m c))
      ((Cert.KernelIdeal.Gen.dats m 0 c).arrAt 3 Cert.KernelIdeal.cfg0.N) := by
  funext i
  rw [index_eq i]
  have h : (i 3).val < 2048 := (i 3).isLt
  exact (RefRead.result_apply _ _ _ (i 0) (i 1) (i 2) ⟨(i 3).val / 64, by omega⟩ ⟨(i 3).val % 64, by omega⟩).trans
    (Array.array_apply m c (i 0) (i 1) (i 2) ⟨(i 3).val / 64, by omega⟩ ⟨(i 3).val % 64, by omega⟩).symm

theorem algebraic : Cert.algebraic_KernelIdeal_ReferenceIdeal := by
  intro m ρ m' ρ' _ hagree
  refine ⟨fun c => (Cert.KernelIdeal.Gen.dats m 0 c).arrAt 3 Cert.KernelIdeal.cfg0.N, Cert.KernelIdeal.Value.run_blocks m ρ, ?_⟩
  refine (θ_run Cert.ReferenceIdeal.defs _ _).mono (fun r h c => ⟨(h c).1.trans ?_, (h c).2⟩) (Cert.ReferenceIdeal.Value.run m' ρ')
  refine (Cert.ReferenceIdeal.Read.val_main_v828_eq (StableHlo.launchContents m' c)).trans ?_
  refine Eq.trans ?_ (result_eq m c)
  show Cert.ReferenceIdeal.Read.val_main_v828 (F := Ideal) (m' (c.tc.loc Cert.ReferenceIdeal.main_arg0))
    (m' (c.tc.loc Cert.ReferenceIdeal.main_arg1)) (m' (c.tc.loc Cert.ReferenceIdeal.main_arg2)) = _
  rw [(hagree c).1, (hagree c).2.1, (hagree c).2.2]

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
